-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![2048, 2048]⟩ ⟨2, ![2048, 8192]⟩ 1 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 2048]⟩ ⟨2, ![2048, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S2048x2048 .bf16) : IVec S2048x2048 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  main_v2
-- ==== Pre_finite_ReferenceIdeal.lean ====
abbrev S2048x8192 : Shape := ⟨2, ![2048, 8192]⟩
abbrev S_ : Shape := ⟨0, ![]⟩

class Facts : Prop where
  bcast_S_S2048x8192 : S_.BroadcastsInDim S2048x8192 (![] : Fin 0 → Fin S2048x8192.rank)

variable [Facts]

def fn {F : FTy → Type} [FloatOps F] (main_arg0 : FVec F S2048x8192 .bf16) : IVec S2048x8192 1 :=
  let main_v0 : FVec F S2048x8192 .bf16 := Host.absf main_arg0
  let main_cst : FVec F S_ .bf16 := constant S_ .bf16 0x7F80#16
  let main_v1 : FVec F S2048x8192 .bf16 := broadcastInDim S2048x8192 ![] bcast_S_S2048x8192 main_cst
  let main_v2 : IVec S2048x8192 1 := cmpf .olt main_v0 main_v1
  main_v2
-- ==== Kernel.lean ====
abbrev S2048x2048 : Shape := ⟨2, ![2048, 2048]⟩
abbrev S4x4x2x512 : Shape := ⟨4, ![4, 4, 2, 512]⟩
abbrev S4x4 : Shape := ⟨2, ![4, 4]⟩
abbrev S_ : Shape := ⟨0, ![]⟩
abbrev S512x2048 : Shape := ⟨2, ![512, 2048]⟩
abbrev S512 : Shape := ⟨1, ![512]⟩
abbrev S512x1 : Shape := ⟨2, ![512, 1]⟩
abbrev S1x512 : Shape := ⟨2, ![1, 512]⟩
abbrev S2x512 : Shape := ⟨2, ![2, 512]⟩
abbrev S1x1x2x512 : Shape := ⟨4, ![1, 1, 2, 512]⟩
abbrev S1x1 : Shape := ⟨2, ![1, 1]⟩
abbrev S1x4x1x512 : Shape := ⟨4, ![1, 4, 1, 512]⟩
abbrev S4x512 : Shape := ⟨2, ![4, 512]⟩

abbrev nBuf : Space → Nat
  | .hbm => 2
  | .vmem => 3
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S4x4x2x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_30 : BitVec 32 := 0#32
  let v56 : BitVec 1 := Scalar.cmpi .eq v2 c0_i32_30
  let v57 : BitVec 32 := Scalar.extui v56
  let c0_i32_31 : BitVec 32 := 0#32
  let v58 : BitVec 1 := Scalar.cmpi .ne v57 c0_i32_31
  v58

def k0_dev4 : Nat :=
  let c0_i32_194 : BitVec 32 := 0#32
  let c1_i32_192 : BitVec 32 := 1#32
  let c1_i32_193 : BitVec 32 := 1#32
  let v327 : BitVec 32 := Scalar.muli c1_i32_192 c1_i32_193
  let v328 : BitVec 32 := Scalar.addi c0_i32_194 v327
  v328.toNat
def k0_dev5 : Nat :=
  let c0_i32_209 : BitVec 32 := 0#32
  let c2_i32_207 : BitVec 32 := 2#32
  let c1_i32_208 : BitVec 32 := 1#32
  let v337 : BitVec 32 := Scalar.muli c2_i32_207 c1_i32_208
  let v338 : BitVec 32 := Scalar.addi c0_i32_209 v337
  v338.toNat
def k0_dev6 : Nat :=
  let c0_i32_224 : BitVec 32 := 0#32
  let c3_i32_222 : BitVec 32 := 3#32
  let c1_i32_223 : BitVec 32 := 1#32
  let v347 : BitVec 32 := Scalar.muli c3_i32_222 c1_i32_223
  let v348 : BitVec 32 := Scalar.addi c0_i32_224 v347
  v348.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_32 : BitVec 32 := 1#32
  let v59 : BitVec 1 := Scalar.cmpi .eq v2 c1_i32_32
  let v60 : BitVec 32 := Scalar.extui v59
  let c0_i32_33 : BitVec 32 := 0#32
  let v61 : BitVec 1 := Scalar.cmpi .ne v60 c0_i32_33
  v61

def k0_dev7 : Nat :=
  let c0_i32_194 : BitVec 32 := 0#32
  let c2_i32_192 : BitVec 32 := 2#32
  let c1_i32_193 : BitVec 32 := 1#32
  let v327 : BitVec 32 := Scalar.muli c2_i32_192 c1_i32_193
  let v328 : BitVec 32 := Scalar.addi c0_i32_194 v327
  v328.toNat
def k0_dev8 : Nat :=
  let c0_i32_209 : BitVec 32 := 0#32
  let c3_i32_207 : BitVec 32 := 3#32
  let c1_i32_208 : BitVec 32 := 1#32
  let v337 : BitVec 32 := Scalar.muli c3_i32_207 c1_i32_208
  let v338 : BitVec 32 := Scalar.addi c0_i32_209 v337
  v338.toNat
def k0_dev9 : Nat :=
  let c0_i32_224 : BitVec 32 := 0#32
  let c0_i32_222 : BitVec 32 := 0#32
  let c1_i32_223 : BitVec 32 := 1#32
  let v347 : BitVec 32 := Scalar.muli c0_i32_222 c1_i32_223
  let v348 : BitVec 32 := Scalar.addi c0_i32_224 v347
  v348.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_34 : BitVec 32 := 2#32
  let v62 : BitVec 1 := Scalar.cmpi .eq v2 c2_i32_34
  let v63 : BitVec 32 := Scalar.extui v62
  let c0_i32_35 : BitVec 32 := 0#32
  let v64 : BitVec 1 := Scalar.cmpi .ne v63 c0_i32_35
  v64

def k0_dev10 : Nat :=
  let c0_i32_194 : BitVec 32 := 0#32
  let c3_i32_192 : BitVec 32 := 3#32
  let c1_i32_193 : BitVec 32 := 1#32
  let v327 : BitVec 32 := Scalar.muli c3_i32_192 c1_i32_193
  let v328 : BitVec 32 := Scalar.addi c0_i32_194 v327
  v328.toNat
def k0_dev11 : Nat :=
  let c0_i32_209 : BitVec 32 := 0#32
  let c0_i32_207 : BitVec 32 := 0#32
  let c1_i32_208 : BitVec 32 := 1#32
  let v337 : BitVec 32 := Scalar.muli c0_i32_207 c1_i32_208
  let v338 : BitVec 32 := Scalar.addi c0_i32_209 v337
  v338.toNat
def k0_dev12 : Nat :=
  let c0_i32_224 : BitVec 32 := 0#32
  let c1_i32_222 : BitVec 32 := 1#32
  let c1_i32_223 : BitVec 32 := 1#32
  let v347 : BitVec 32 := Scalar.muli c1_i32_222 c1_i32_223
  let v348 : BitVec 32 := Scalar.addi c0_i32_224 v347
  v348.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_36 : BitVec 32 := 3#32
  let v65 : BitVec 1 := Scalar.cmpi .eq v2 c3_i32_36
  let v66 : BitVec 32 := Scalar.extui v65
  let c0_i32_37 : BitVec 32 := 0#32
  let v67 : BitVec 1 := Scalar.cmpi .ne v66 c0_i32_37
  v67

def k0_dev13 : Nat :=
  let c0_i32_194 : BitVec 32 := 0#32
  let c0_i32_192 : BitVec 32 := 0#32
  let c1_i32_193 : BitVec 32 := 1#32
  let v327 : BitVec 32 := Scalar.muli c0_i32_192 c1_i32_193
  let v328 : BitVec 32 := Scalar.addi c0_i32_194 v327
  v328.toNat
def k0_dev14 : Nat :=
  let c0_i32_209 : BitVec 32 := 0#32
  let c1_i32_207 : BitVec 32 := 1#32
  let c1_i32_208 : BitVec 32 := 1#32
  let v337 : BitVec 32 := Scalar.muli c1_i32_207 c1_i32_208
  let v338 : BitVec 32 := Scalar.addi c0_i32_209 v337
  v338.toNat
def k0_dev15 : Nat :=
  let c0_i32_224 : BitVec 32 := 0#32
  let c2_i32_222 : BitVec 32 := 2#32
  let c1_i32_223 : BitVec 32 := 1#32
  let v347 : BitVec 32 := Scalar.muli c2_i32_222 c1_i32_223
  let v348 : BitVec 32 := Scalar.addi c0_i32_224 v347
  v348.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_41 : BitVec 32 := 0#32
  let v81 : BitVec 1 := Scalar.cmpi .eq v2 c0_i32_41
  let v82 : BitVec 32 := Scalar.extui v81
  let c0_i32_42 : BitVec 32 := 0#32
  let v83 : BitVec 1 := Scalar.cmpi .ne v82 c0_i32_42
  v83

def k0_dev16 : Nat :=
  let c0_i32_194 : BitVec 32 := 0#32
  let c1_i32_192 : BitVec 32 := 1#32
  let c1_i32_193 : BitVec 32 := 1#32
  let v327 : BitVec 32 := Scalar.muli c1_i32_192 c1_i32_193
  let v328 : BitVec 32 := Scalar.addi c0_i32_194 v327
  v328.toNat
def k0_dev17 : Nat :=
  let c0_i32_209 : BitVec 32 := 0#32
  let c2_i32_207 : BitVec 32 := 2#32
  let c1_i32_208 : BitVec 32 := 1#32
  let v337 : BitVec 32 := Scalar.muli c2_i32_207 c1_i32_208
  let v338 : BitVec 32 := Scalar.addi c0_i32_209 v337
  v338.toNat
def k0_dev18 : Nat :=
  let c0_i32_224 : BitVec 32 := 0#32
  let c3_i32_222 : BitVec 32 := 3#32
  let c1_i32_223 : BitVec 32 := 1#32
  let v347 : BitVec 32 := Scalar.muli c3_i32_222 c1_i32_223
  let v348 : BitVec 32 := Scalar.addi c0_i32_224 v347
  v348.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_43 : BitVec 32 := 1#32
  let v84 : BitVec 1 := Scalar.cmpi .eq v2 c1_i32_43
  let v85 : BitVec 32 := Scalar.extui v84
  let c0_i32_44 : BitVec 32 := 0#32
  let v86 : BitVec 1 := Scalar.cmpi .ne v85 c0_i32_44
  v86

def k0_dev19 : Nat :=
  let c0_i32_194 : BitVec 32 := 0#32
  let c2_i32_192 : BitVec 32 := 2#32
  let c1_i32_193 : BitVec 32 := 1#32
  let v327 : BitVec 32 := Scalar.muli c2_i32_192 c1_i32_193
  let v328 : BitVec 32 := Scalar.addi c0_i32_194 v327
  v328.toNat
def k0_dev20 : Nat :=
  let c0_i32_209 : BitVec 32 := 0#32
  let c3_i32_207 : BitVec 32 := 3#32
  let c1_i32_208 : BitVec 32 := 1#32
  let v337 : BitVec 32 := Scalar.muli c3_i32_207 c1_i32_208
  let v338 : BitVec 32 := Scalar.addi c0_i32_209 v337
  v338.toNat
def k0_dev21 : Nat :=
  let c0_i32_224 : BitVec 32 := 0#32
  let c0_i32_222 : BitVec 32 := 0#32
  let c1_i32_223 : BitVec 32 := 1#32
  let v347 : BitVec 32 := Scalar.muli c0_i32_222 c1_i32_223
  let v348 : BitVec 32 := Scalar.addi c0_i32_224 v347
  v348.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v87 : BitVec 1 := Scalar.cmpi .eq v2 c2_i32_45
  let v88 : BitVec 32 := Scalar.extui v87
  let c0_i32_46 : BitVec 32 := 0#32
  let v89 : BitVec 1 := Scalar.cmpi .ne v88 c0_i32_46
  v89

def k0_dev22 : Nat :=
  let c0_i32_194 : BitVec 32 := 0#32
  let c3_i32_192 : BitVec 32 := 3#32
  let c1_i32_193 : BitVec 32 := 1#32
  let v327 : BitVec 32 := Scalar.muli c3_i32_192 c1_i32_193
  let v328 : BitVec 32 := Scalar.addi c0_i32_194 v327
  v328.toNat
def k0_dev23 : Nat :=
  let c0_i32_209 : BitVec 32 := 0#32
  let c0_i32_207 : BitVec 32 := 0#32
  let c1_i32_208 : BitVec 32 := 1#32
  let v337 : BitVec 32 := Scalar.muli c0_i32_207 c1_i32_208
  let v338 : BitVec 32 := Scalar.addi c0_i32_209 v337
  v338.toNat
def k0_dev24 : Nat :=
  let c0_i32_224 : BitVec 32 := 0#32
  let c1_i32_222 : BitVec 32 := 1#32
  let c1_i32_223 : BitVec 32 := 1#32
  let v347 : BitVec 32 := Scalar.muli c1_i32_222 c1_i32_223
  let v348 : BitVec 32 := Scalar.addi c0_i32_224 v347
  v348.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_47 : BitVec 32 := 3#32
  let v90 : BitVec 1 := Scalar.cmpi .eq v2 c3_i32_47
  let v91 : BitVec 32 := Scalar.extui v90
  let c0_i32_48 : BitVec 32 := 0#32
  let v92 : BitVec 1 := Scalar.cmpi .ne v91 c0_i32_48
  v92

def k0_dev25 : Nat :=
  let c0_i32_194 : BitVec 32 := 0#32
  let c0_i32_192 : BitVec 32 := 0#32
  let c1_i32_193 : BitVec 32 := 1#32
  let v327 : BitVec 32 := Scalar.muli c0_i32_192 c1_i32_193
  let v328 : BitVec 32 := Scalar.addi c0_i32_194 v327
  v328.toNat
def k0_dev26 : Nat :=
  let c0_i32_209 : BitVec 32 := 0#32
  let c1_i32_207 : BitVec 32 := 1#32
  let c1_i32_208 : BitVec 32 := 1#32
  let v337 : BitVec 32 := Scalar.muli c1_i32_207 c1_i32_208
  let v338 : BitVec 32 := Scalar.addi c0_i32_209 v337
  v338.toNat
def k0_dev27 : Nat :=
  let c0_i32_224 : BitVec 32 := 0#32
  let c2_i32_222 : BitVec 32 := 2#32
  let c1_i32_223 : BitVec 32 := 1#32
  let v347 : BitVec 32 := Scalar.muli c2_i32_222 c1_i32_223
  let v348 : BitVec 32 := Scalar.addi c0_i32_224 v347
  v348.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_52 : BitVec 32 := 0#32
  let v106 : BitVec 1 := Scalar.cmpi .eq v2 c0_i32_52
  let v107 : BitVec 32 := Scalar.extui v106
  let c0_i32_53 : BitVec 32 := 0#32
  let v108 : BitVec 1 := Scalar.cmpi .ne v107 c0_i32_53
  v108

def k0_dev28 : Nat :=
  let c0_i32_194 : BitVec 32 := 0#32
  let c1_i32_192 : BitVec 32 := 1#32
  let c1_i32_193 : BitVec 32 := 1#32
  let v327 : BitVec 32 := Scalar.muli c1_i32_192 c1_i32_193
  let v328 : BitVec 32 := Scalar.addi c0_i32_194 v327
  v328.toNat
def k0_dev29 : Nat :=
  let c0_i32_209 : BitVec 32 := 0#32
  let c2_i32_207 : BitVec 32 := 2#32
  let c1_i32_208 : BitVec 32 := 1#32
  let v337 : BitVec 32 := Scalar.muli c2_i32_207 c1_i32_208
  let v338 : BitVec 32 := Scalar.addi c0_i32_209 v337
  v338.toNat
def k0_dev30 : Nat :=
  let c0_i32_224 : BitVec 32 := 0#32
  let c3_i32_222 : BitVec 32 := 3#32
  let c1_i32_223 : BitVec 32 := 1#32
  let v347 : BitVec 32 := Scalar.muli c3_i32_222 c1_i32_223
  let v348 : BitVec 32 := Scalar.addi c0_i32_224 v347
  v348.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_54 : BitVec 32 := 1#32
  let v109 : BitVec 1 := Scalar.cmpi .eq v2 c1_i32_54
  let v110 : BitVec 32 := Scalar.extui v109
  let c0_i32_55 : BitVec 32 := 0#32
  let v111 : BitVec 1 := Scalar.cmpi .ne v110 c0_i32_55
  v111

def k0_dev31 : Nat :=
  let c0_i32_194 : BitVec 32 := 0#32
  let c2_i32_192 : BitVec 32 := 2#32
  let c1_i32_193 : BitVec 32 := 1#32
  let v327 : BitVec 32 := Scalar.muli c2_i32_192 c1_i32_193
  let v328 : BitVec 32 := Scalar.addi c0_i32_194 v327
  v328.toNat
def k0_dev32 : Nat :=
  let c0_i32_209 : BitVec 32 := 0#32
  let c3_i32_207 : BitVec 32 := 3#32
  let c1_i32_208 : BitVec 32 := 1#32
  let v337 : BitVec 32 := Scalar.muli c3_i32_207 c1_i32_208
  let v338 : BitVec 32 := Scalar.addi c0_i32_209 v337
  v338.toNat
def k0_dev33 : Nat :=
  let c0_i32_224 : BitVec 32 := 0#32
  let c0_i32_222 : BitVec 32 := 0#32
  let c1_i32_223 : BitVec 32 := 1#32
  let v347 : BitVec 32 := Scalar.muli c0_i32_222 c1_i32_223
  let v348 : BitVec 32 := Scalar.addi c0_i32_224 v347
  v348.toNat
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_56 : BitVec 32 := 2#32
  let v112 : BitVec 1 := Scalar.cmpi .eq v2 c2_i32_56
  let v113 : BitVec 32 := Scalar.extui v112
  let c0_i32_57 : BitVec 32 := 0#32
  let v114 : BitVec 1 := Scalar.cmpi .ne v113 c0_i32_57
  v114

def k0_dev34 : Nat :=
  let c0_i32_194 : BitVec 32 := 0#32
  let c3_i32_192 : BitVec 32 := 3#32
  let c1_i32_193 : BitVec 32 := 1#32
  let v327 : BitVec 32 := Scalar.muli c3_i32_192 c1_i32_193
  let v328 : BitVec 32 := Scalar.addi c0_i32_194 v327
  v328.toNat
def k0_dev35 : Nat :=
  let c0_i32_209 : BitVec 32 := 0#32
  let c0_i32_207 : BitVec 32 := 0#32
  let c1_i32_208 : BitVec 32 := 1#32
  let v337 : BitVec 32 := Scalar.muli c0_i32_207 c1_i32_208
  let v338 : BitVec 32 := Scalar.addi c0_i32_209 v337
  v338.toNat
def k0_dev36 : Nat :=
  let c0_i32_224 : BitVec 32 := 0#32
  let c1_i32_222 : BitVec 32 := 1#32
  let c1_i32_223 : BitVec 32 := 1#32
  let v347 : BitVec 32 := Scalar.muli c1_i32_222 c1_i32_223
  let v348 : BitVec 32 := Scalar.addi c0_i32_224 v347
  v348.toNat
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_58 : BitVec 32 := 3#32
  let v115 : BitVec 1 := Scalar.cmpi .eq v2 c3_i32_58
  let v116 : BitVec 32 := Scalar.extui v115
  let c0_i32_59 : BitVec 32 := 0#32
  let v117 : BitVec 1 := Scalar.cmpi .ne v116 c0_i32_59
  v117

def k0_dev37 : Nat :=
  let c0_i32_194 : BitVec 32 := 0#32
  let c0_i32_192 : BitVec 32 := 0#32
  let c1_i32_193 : BitVec 32 := 1#32
  let v327 : BitVec 32 := Scalar.muli c0_i32_192 c1_i32_193
  let v328 : BitVec 32 := Scalar.addi c0_i32_194 v327
  v328.toNat
def k0_dev38 : Nat :=
  let c0_i32_209 : BitVec 32 := 0#32
  let c1_i32_207 : BitVec 32 := 1#32
  let c1_i32_208 : BitVec 32 := 1#32
  let v337 : BitVec 32 := Scalar.muli c1_i32_207 c1_i32_208
  let v338 : BitVec 32 := Scalar.addi c0_i32_209 v337
  v338.toNat
def k0_dev39 : Nat :=
  let c0_i32_224 : BitVec 32 := 0#32
  let c2_i32_222 : BitVec 32 := 2#32
  let c1_i32_223 : BitVec 32 := 1#32
  let v347 : BitVec 32 := Scalar.muli c2_i32_222 c1_i32_223
  let v348 : BitVec 32 := Scalar.addi c0_i32_224 v347
  v348.toNat
def k0_cond13 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_63 : BitVec 32 := 0#32
  let v131 : BitVec 1 := Scalar.cmpi .eq v2 c0_i32_63
  let v132 : BitVec 32 := Scalar.extui v131
  let c0_i32_64 : BitVec 32 := 0#32
  let v133 : BitVec 1 := Scalar.cmpi .ne v132 c0_i32_64
  v133

def k0_dev40 : Nat :=
  let c0_i32_194 : BitVec 32 := 0#32
  let c1_i32_192 : BitVec 32 := 1#32
  let c1_i32_193 : BitVec 32 := 1#32
  let v327 : BitVec 32 := Scalar.muli c1_i32_192 c1_i32_193
  let v328 : BitVec 32 := Scalar.addi c0_i32_194 v327
  v328.toNat
def k0_dev41 : Nat :=
  let c0_i32_209 : BitVec 32 := 0#32
  let c2_i32_207 : BitVec 32 := 2#32
  let c1_i32_208 : BitVec 32 := 1#32
  let v337 : BitVec 32 := Scalar.muli c2_i32_207 c1_i32_208
  let v338 : BitVec 32 := Scalar.addi c0_i32_209 v337
  v338.toNat
def k0_dev42 : Nat :=
  let c0_i32_224 : BitVec 32 := 0#32
  let c3_i32_222 : BitVec 32 := 3#32
  let c1_i32_223 : BitVec 32 := 1#32
  let v347 : BitVec 32 := Scalar.muli c3_i32_222 c1_i32_223
  let v348 : BitVec 32 := Scalar.addi c0_i32_224 v347
  v348.toNat
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_65 : BitVec 32 := 1#32
  let v134 : BitVec 1 := Scalar.cmpi .eq v2 c1_i32_65
  let v135 : BitVec 32 := Scalar.extui v134
  let c0_i32_66 : BitVec 32 := 0#32
  let v136 : BitVec 1 := Scalar.cmpi .ne v135 c0_i32_66
  v136

def k0_dev43 : Nat :=
  let c0_i32_194 : BitVec 32 := 0#32
  let c2_i32_192 : BitVec 32 := 2#32
  let c1_i32_193 : BitVec 32 := 1#32
  let v327 : BitVec 32 := Scalar.muli c2_i32_192 c1_i32_193
  let v328 : BitVec 32 := Scalar.addi c0_i32_194 v327
  v328.toNat
def k0_dev44 : Nat :=
  let c0_i32_209 : BitVec 32 := 0#32
  let c3_i32_207 : BitVec 32 := 3#32
  let c1_i32_208 : BitVec 32 := 1#32
  let v337 : BitVec 32 := Scalar.muli c3_i32_207 c1_i32_208
  let v338 : BitVec 32 := Scalar.addi c0_i32_209 v337
  v338.toNat
def k0_dev45 : Nat :=
  let c0_i32_224 : BitVec 32 := 0#32
  let c0_i32_222 : BitVec 32 := 0#32
  let c1_i32_223 : BitVec 32 := 1#32
  let v347 : BitVec 32 := Scalar.muli c0_i32_222 c1_i32_223
  let v348 : BitVec 32 := Scalar.addi c0_i32_224 v347
  v348.toNat
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_67 : BitVec 32 := 2#32
  let v137 : BitVec 1 := Scalar.cmpi .eq v2 c2_i32_67
  let v138 : BitVec 32 := Scalar.extui v137
  let c0_i32_68 : BitVec 32 := 0#32
  let v139 : BitVec 1 := Scalar.cmpi .ne v138 c0_i32_68
  v139

def k0_dev46 : Nat :=
  let c0_i32_194 : BitVec 32 := 0#32
  let c3_i32_192 : BitVec 32 := 3#32
  let c1_i32_193 : BitVec 32 := 1#32
  let v327 : BitVec 32 := Scalar.muli c3_i32_192 c1_i32_193
  let v328 : BitVec 32 := Scalar.addi c0_i32_194 v327
  v328.toNat
def k0_dev47 : Nat :=
  let c0_i32_209 : BitVec 32 := 0#32
  let c0_i32_207 : BitVec 32 := 0#32
  let c1_i32_208 : BitVec 32 := 1#32
  let v337 : BitVec 32 := Scalar.muli c0_i32_207 c1_i32_208
  let v338 : BitVec 32 := Scalar.addi c0_i32_209 v337
  v338.toNat
def k0_dev48 : Nat :=
  let c0_i32_224 : BitVec 32 := 0#32
  let c1_i32_222 : BitVec 32 := 1#32
  let c1_i32_223 : BitVec 32 := 1#32
  let v347 : BitVec 32 := Scalar.muli c1_i32_222 c1_i32_223
  let v348 : BitVec 32 := Scalar.addi c0_i32_224 v347
  v348.toNat
def k0_cond16 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_69 : BitVec 32 := 3#32
  let v140 : BitVec 1 := Scalar.cmpi .eq v2 c3_i32_69
  let v141 : BitVec 32 := Scalar.extui v140
  let c0_i32_70 : BitVec 32 := 0#32
  let v142 : BitVec 1 := Scalar.cmpi .ne v141 c0_i32_70
  v142

def k0_dev49 : Nat :=
  let c0_i32_194 : BitVec 32 := 0#32
  let c0_i32_192 : BitVec 32 := 0#32
  let c1_i32_193 : BitVec 32 := 1#32
  let v327 : BitVec 32 := Scalar.muli c0_i32_192 c1_i32_193
  let v328 : BitVec 32 := Scalar.addi c0_i32_194 v327
  v328.toNat
def k0_dev50 : Nat :=
  let c0_i32_209 : BitVec 32 := 0#32
  let c1_i32_207 : BitVec 32 := 1#32
  let c1_i32_208 : BitVec 32 := 1#32
  let v337 : BitVec 32 := Scalar.muli c1_i32_207 c1_i32_208
  let v338 : BitVec 32 := Scalar.addi c0_i32_209 v337
  v338.toNat
def k0_dev51 : Nat :=
  let c0_i32_224 : BitVec 32 := 0#32
  let c2_i32_222 : BitVec 32 := 2#32
  let c1_i32_223 : BitVec 32 := 1#32
  let v347 : BitVec 32 := Scalar.muli c2_i32_222 c1_i32_223
  let v348 : BitVec 32 := Scalar.addi c0_i32_224 v347
  v348.toNat
abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x8192 : Shape := ⟨2, ![2048, 8192]⟩
abbrev S_ : Shape := ⟨0, ![]⟩
abbrev S2048 : Shape := ⟨1, ![2048]⟩
abbrev S2048x1 : Shape := ⟨2, ![2048, 1]⟩

abbrev nBuf : Space → Nat
  | .hbm => 14
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S_, .bf16⟩
  | .hbm, ⟨2, _⟩ => ⟨S2048, .bf16⟩
  | .hbm, ⟨3, _⟩ => ⟨S2048x1, .bf16⟩
  | .hbm, ⟨4, _⟩ => ⟨S2048x8192, .bf16⟩
  | .hbm, ⟨5, _⟩ => ⟨S2048x8192, .bf16⟩
  | .hbm, ⟨6, _⟩ => ⟨S2048x8192, .bf16⟩
  | .hbm, ⟨7, _⟩ => ⟨S2048x8192, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x1, .bf16⟩
  | .hbm, ⟨12, _⟩ => ⟨S2048x8192, .bf16⟩
  | .hbm, ⟨13, _⟩ => ⟨S2048x8192, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proof.Program.lean ====
/-
The kernel's body, regrouped.

The body handles four row chunks of its block. For every chunk it writes the chunk's statistics (row maximum and row sum) into its own slot
of the exchange buffer and sends that slot to the three other devices; then, chunk by chunk, it waits for the other devices' slots, reads the
whole row of slots, and writes the scaled chunk. Every one of those steps is printed once per chunk and per device name. Here each is stated
once, with the chunk and the device as arguments, and the printed body is shown to be the regrouped one.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Softmax

open Cert.KernelIdeal Cert.KernelIdeal.Gen
open Idealize.ShloMosaic Idealize.ShloMosaic.TcCoe
open Idealize.SL Idealize.SL.Sem

variable {F : FTy → Type} [FloatOps F]

/-! ## Buffers, slots, semaphores -/

/-- The device's block of `x`, its block of the result, and the exchange buffer of the statistics. -/
abbrev xM : Memref sig .tc .vmem S2048x2048 .bf16 := Memref.whole cc0_stg0_0
abbrev oM : Memref sig .tc .vmem S2048x2048 .bf16 := Memref.whole cc0_stg1_0
abbrev sM : Memref sig .tc .vmem S4x4x2x512 .f32 := Memref.whole cc0_scratch0

theorem slot_inb (ch i : Fin 4) : ∀ a, (![ch.val, i.val, 0, 0] : Fin 4 → ℕ) a + S1x1x2x512.size a ≤ S4x4x2x512.size a := by
  revert ch i; decide
theorem chunk_inb (ch : Fin 4) : ∀ a, (![512 * ch.val, 0] : Fin 2 → ℕ) a + S512x2048.size a ≤ S2048x2048.size a := by
  revert ch; decide
theorem all_inb (ch : Fin 4) (k : Fin 2) : ∀ a, (![ch.val, 0, k.val, 0] : Fin 4 → ℕ) a + S1x4x1x512.size a ≤ S4x4x2x512.size a := by
  revert ch k; decide
theorem sem_inb (ch i : Fin 4) : ∀ a, (![ch.val, i.val] : Fin 2 → ℕ) a + S1x1.size a ≤ S4x4.size a := by
  revert ch i; decide
theorem chunk_packed (ch : Fin 4) :
    (Rect.unit (s := S2048x2048) ![512 * ch.val, 0] S512x2048.size (chunk_inb ch)).PackedRows (EltTy.packing .bf16) := by
  revert ch; decide

/-- Slot `i` of chunk `ch`: where device `i`'s statistics of chunk `ch` go, on every device. -/
abbrev slotR (ch i : Fin 4) : Rect S4x4x2x512 := Rect.unit (s := S4x4x2x512) ![ch.val, i.val, 0, 0] S1x1x2x512.size (slot_inb ch i)
/-- The rows of chunk `ch`. -/
abbrev chunkR (ch : Fin 4) : Rect S2048x2048 := Rect.unit (s := S2048x2048) ![512 * ch.val, 0] S512x2048.size (chunk_inb ch)
/-- One statistic (`0` the maxima, `1` the sums) of chunk `ch`, of all four devices. -/
abbrev allR (ch : Fin 4) (k : Fin 2) : Rect S4x4x2x512 := Rect.unit (s := S4x4x2x512) ![ch.val, 0, k.val, 0] S1x4x1x512.size (all_inb ch k)

/-- The slot as the copies name it. -/
abbrev slotM (ch i : Fin 4) : Memref sig .tc .vmem S2x512 .f32 :=
  (sM.slice (slotR ch i) (fun _ => rfl)).squeeze S2x512 squeezes_S1x1x2x512_S2x512

/-- The semaphore that counts chunk `ch`'s copy to device `j` as sent. -/
abbrev sendS (ch j : Fin 4) : DmaSem sig :=
  (((cc0_scratch1 : DmaSems sig S4x4).slice (Rect.unit (s := S4x4) ![ch.val, j.val] S1x1.size (sem_inb ch j))).squeeze S_ squeezes_S1x1_S_).sem
/-- The semaphore that counts chunk `ch`'s copy from device `i` as arrived. -/
abbrev recvS (ch i : Fin 4) : DmaSem sig :=
  (((cc0_scratch2 : DmaSems sig S4x4).slice (Rect.unit (s := S4x4) ![ch.val, i.val] S1x1.size (sem_inb ch i))).squeeze S_ squeezes_S1x1_S_).sem
/-- The barrier semaphore. -/
abbrev barS : Sem sig := (SemArray.scalar (sig.barrier 0 rfl) : Sems sig S_).sem

/-! ## The steps -/

/-- A device's place on the mesh, as the kernel computes it. -/
abbrev place (d : Dev nD) : BitVec 32 := Scalar.remsi (Scalar.divsi (Dev.word d) 1#32) 4#32

/-- A program of the device's one core. -/
abbrev Step (F : FTy → Type) : Type → Type 1 := Prog (TpuEff nD τ sig (Elt F) Λ₀ .tc)

/-- The rows of chunk `ch`, read from the block of `x`. -/
abbrev loadX (ch : Fin 4) : Step F (Vec F S512x2048 .bf16) :=
  Prog.lift (.load xM (chunkR ch).toLoadRect (View.loadsAt_vmem h_S512x2048))

/-- Device `i`'s slot of chunk `ch`, copied to device `j`. -/
abbrev copyTo (ch i j : Fin 4) : Step F PUnit :=
  Prog.lift (.enqueueDma (slotM ch i) (.remote (Dev.tc (j : Dev nD)) (slotM ch i) (.dma (sendS ch j))) (.dma (recvS ch i))
    ((View.wordExact_bits rfl).reshape _ _) ((View.wordExact_bits rfl).reshape _ _) ⟨⟨rfl, Or.inl rfl⟩, trivial⟩)

/-! The three guarded steps are given with what comes after them, as the printed body has them. -/

/-- On device `i` only: its statistics of chunk `ch` stored in its slot and copied to the three others. Then `k`. -/
def share {α : Type} (ch i : Fin 4) (d : Dev nD) (st : FVec F S2x512 .bf16) (k : Step F α) : Step F α :=
  if _h : Scalar.cmpi .ne (Scalar.extui (Scalar.cmpi .eq (place d) (BitVec.ofNat 32 i.val)) : BitVec 32) 0#32 = 1#1 then do
    let _ : Vec F S1x1x2x512 .f32 ← Prog.lift (.load sM (slotR ch i).toLoadRect (View.loadsAt_vmem h_S1x1x2x512))
    Prog.lift (.store sM (slotR ch i) (k0_pay1 st) Finset.univ (View.stores_vmem_bits_univ h_S1x1x2x512 rfl) (.inl rfl))
    copyTo ch i (i + 1)
    copyTo ch i (i + 2)
    copyTo ch i (i + 3)
    k
  else k

/-- On every device but `i`: the wait for device `i`'s statistics of chunk `ch`. Then `k`. -/
def recvWait {α : Type} (w : BitVec 32) (ch i : Fin 4) (k : Step F α) : Step F α :=
  if _h : Scalar.cmpi .ne (Scalar.extui (Scalar.cmpi .ne w (BitVec.ofNat 32 i.val)) : BitVec 32) 0#32 = 1#1 then do
    Prog.lift (.waitDma2 (recvS ch i) (slotM ch i) (slotM ch i) ((View.wordExact_bits rfl).reshape _ _) ((View.wordExact_bits rfl).reshape _ _))
    k
  else k

/-- On every device but `j`: the wait until chunk `ch`'s copy to device `j` is sent. Then `k`. -/
def sendWait {α : Type} (w : BitVec 32) (ch j : Fin 4) (k : Step F α) : Step F α :=
  if _h : Scalar.cmpi .ne (Scalar.extui (Scalar.cmpi .ne w (BitVec.ofNat 32 j.val)) : BitVec 32) 0#32 = 1#1 then do
    Prog.lift (.waitDma2 (sendS ch j) (slotM ch 0) (slotM ch 0) ((View.wordExact_bits rfl).reshape _ _) ((View.wordExact_bits rfl).reshape _ _))
    k
  else k

/-- What follows a guarded step may be bound inside it. -/
theorem share_bind {α β : Type} (ch i : Fin 4) (d : Dev nD) (st : FVec F S2x512 .bf16) (k : Step F α) (f : α → Step F β) :
    (share ch i d st k >>= f) = share ch i d st (k >>= f) := by
  unfold share; split <;> rfl
theorem recvWait_bind {α β : Type} (w : BitVec 32) (ch i : Fin 4) (k : Step F α) (f : α → Step F β) :
    (recvWait w ch i k >>= f) = recvWait w ch i (k >>= f) := by
  unfold recvWait; split <;> rfl
theorem sendWait_bind {α β : Type} (w : BitVec 32) (ch i : Fin 4) (k : Step F α) (f : α → Step F β) :
    (sendWait w ch i k >>= f) = sendWait w ch i (k >>= f) := by
  unfold sendWait; split <;> rfl

/-- One statistic of chunk `ch`, of all four devices, read from the exchange buffer. -/
abbrev loadAll (ch : Fin 4) (k : Fin 2) : Step F (Vec F S1x4x1x512 .f32) :=
  Prog.lift (.load sM (allR ch k).toLoadRect (View.loadsAt_vmem h_S1x4x1x512))

/-- Chunk `ch` of the result, written (the printed body reads the rows before it overwrites them). -/
abbrev put (ch : Fin 4) (v : FVec F S512x2048 .bf16) : Step F PUnit := do
  let _ : Vec F S512x2048 .bf16 ← Prog.lift (.load oM (chunkR ch).toLoadRect (View.loadsAt_vmem h_S512x2048))
  Prog.lift (.store oM (chunkR ch) v Finset.univ
    (View.stores_vmem h_S512x2048 ((Memref.isWhole_whole _).storeExact_slice rfl _ (chunk_packed ch)) (fun _ => rfl)) (.inl rfl))

/-- Chunk `ch`'s statistics, shared. Then `k`. -/
def shareAll {α : Type} (ch : Fin 4) (d : Dev nD) (st : FVec F S2x512 .bf16) (k : Step F α) : Step F α :=
  share ch 0 d st <| share ch 1 d st <| share ch 2 d st <| share ch 3 d st k

/-- Chunk `ch`'s waits for the other devices' statistics. Then `k`. -/
def gather {α : Type} (w : BitVec 32) (ch : Fin 4) (k : Step F α) : Step F α :=
  recvWait w ch 0 <| recvWait w ch 1 <| recvWait w ch 2 <| recvWait w ch 3 k

/-- Chunk `ch`'s copies, waited for. Then `k`. -/
def drain {α : Type} (w : BitVec 32) (ch : Fin 4) (k : Step F α) : Step F α :=
  sendWait w ch 0 <| sendWait w ch 1 <| sendWait w ch 2 <| sendWait w ch 3 k

/-- Chunk `ch`, gathered and finished. Then `k`. -/
def finish {α : Type} (w : BitVec 32) (ch : Fin 4) (x : Vec F S512x2048 .bf16) (k : Step F α) : Step F α :=
  gather w ch <| do
    let ms ← loadAll ch 0
    let ss ← loadAll ch 1
    put ch (k0_pay35 (k0_pay18 x) (k0_pay19 x) ms ss)
    k

/-- The body. -/
def program : Step F PUnit := do
  let d : Dev nD ← Prog.lift .deviceId
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  let x0 ← loadX 0
  semWaitWord barS 3#32
  shareAll 0 d (k0_pay20 x0) <| do
    let x1 ← loadX 1
    shareAll 1 d (k0_pay20 x1) <| do
      let x2 ← loadX 2
      shareAll 2 d (k0_pay20 x2) <| do
        let x3 ← loadX 3
        shareAll 3 d (k0_pay20 x3) <|
          finish (place d) 0 x0 <| finish (place d) 1 x1 <| finish (place d) 2 x2 <| finish (place d) 3 x3 <|
            drain (place d) 0 <| drain (place d) 1 <| drain (place d) 2 <| drain (place d) 3 <| pure ⟨⟩

/-! ## The printed parts are those steps -/

section Parts
variable (hx : (xM : Memref sig .tc .vmem S2048x2048 .bf16).IsWhole) (ho : (oM : Memref sig .tc .vmem S2048x2048 .bf16).IsWhole)
  (hs : (sM : Memref sig .tc .vmem S4x4x2x512 .f32).IsWhole) (d : Dev nD)

set_option maxRecDepth 65536 in
theorem part17_eq : k0_part17 (F := F) xM hx oM ho sM hs cc0_scratch1 cc0_scratch2 = (do
    let d : Dev nD ← Prog.lift .deviceId
    semSignalWord (⟨k0_dev1 d, k0_dev1_lt d⟩ : Dev nD) barS 1#32
    semSignalWord (⟨k0_dev2 d, k0_dev2_lt d⟩ : Dev nD) barS 1#32
    pure ⟨d, place d, SemArray.scalar (sig.barrier 0 rfl), Scalar.addi (place d) 3#32, 4#32, Scalar.cmpi .eq 4#32 0#32⟩) := by
  rw [k0_part17_eq_skeleton]; rfl

set_option maxRecDepth 65536 in
theorem part18_eq (a b : BitVec 32) (e : BitVec 1) :
    k0_part18 (F := F) xM hx oM ho sM hs cc0_scratch1 cc0_scratch2 d (place d) (SemArray.scalar (sig.barrier 0 rfl)) a b e = (do
    semSignalWord (⟨k0_dev3 d, k0_dev3_lt d⟩ : Dev nD) barS 1#32
    let x0 ← loadX 0
    semWaitWord barS 3#32
    share 0 0 d (k0_pay20 x0) <| do
      share 0 1 d (k0_pay20 x0) <| do
        share 0 2 d (k0_pay20 x0) <| do
          pure ⟨k0_pay18 x0, k0_pay19 x0, k0_pay20 x0, Scalar.extui (Scalar.cmpi .eq (place d) 3#32)⟩) := by
  rw [k0_part18_eq_skeleton]; rfl

set_option maxRecDepth 65536 in
theorem part19_eq (st : FVec F S2x512 .bf16) :
    k0_part19 (F := F) xM hx oM ho sM hs cc0_scratch1 cc0_scratch2 d (place d) st (Scalar.extui (Scalar.cmpi .eq (place d) 3#32)) = (do
    share 0 3 d st <| do
      let x1 ← loadX 1
      share 1 0 d (k0_pay20 x1) <| do
        share 1 1 d (k0_pay20 x1) <| do
          share 1 2 d (k0_pay20 x1) <| do
            share 1 3 d (k0_pay20 x1) <| do
              let x2 ← loadX 2
              pure ⟨k0_pay18 x1, k0_pay19 x1, k0_pay18 x2, k0_pay19 x2, k0_pay28 x2, k0_pay29 x2⟩) := by
  rw [k0_part19_eq_skeleton]; rfl

set_option maxRecDepth 65536 in
theorem part20_eq (x2 : Vec F S512x2048 .bf16) :
    k0_part20 (F := F) xM hx oM ho sM hs cc0_scratch1 cc0_scratch2 d (place d) (k0_pay28 x2) (k0_pay29 x2) = (do
    share 2 0 d (k0_pay20 x2) <| do
      share 2 1 d (k0_pay20 x2) <| do
        share 2 2 d (k0_pay20 x2) <| do
          share 2 3 d (k0_pay20 x2) <| do
            let x3 ← loadX 3
            share 3 0 d (k0_pay20 x3) <| do
              share 3 1 d (k0_pay20 x3) <| do
                share 3 2 d (k0_pay20 x3) <| do
                  pure ⟨k0_pay18 x3, k0_pay19 x3, k0_pay20 x3⟩) := by
  rw [k0_part20_eq_skeleton]; rfl

set_option maxRecDepth 65536 in
theorem part21_eq (m : FVec F S512 .bf16) (e : FVec F S512x2048 .bf16) (st : FVec F S2x512 .bf16) :
    k0_part21 (F := F) xM hx oM ho sM hs cc0_scratch1 cc0_scratch2 d (place d) m e st = (do
    share 3 3 d st <| do
      recvWait (place d) 0 0 <| do
        recvWait (place d) 0 1 <| do
          recvWait (place d) 0 2 <| do
            recvWait (place d) 0 3 <| do
              let ms ← loadAll 0 0
              let ss ← loadAll 0 1
              pure (k0_pay35 m e ms ss)) := by
  rw [k0_part21_eq_skeleton]; rfl

set_option maxRecDepth 65536 in
theorem part22_eq (w : BitVec 32) (m : FVec F S512 .bf16) (e v : FVec F S512x2048 .bf16) :
    k0_part22 (F := F) xM hx oM ho sM hs cc0_scratch1 cc0_scratch2 w m e v = (do
    put 0 v
    recvWait w 1 0 <| do
      recvWait w 1 1 <| do
        recvWait w 1 2 <| do
          recvWait w 1 3 <| do
            let ms ← loadAll 1 0
            let ss ← loadAll 1 1
            pure (k0_pay35 m e ms ss)) := by
  rw [k0_part22_eq_skeleton]; rfl

set_option maxRecDepth 65536 in
theorem part23_eq (w : BitVec 32) (m : FVec F S512 .bf16) (e v : FVec F S512x2048 .bf16) :
    k0_part23 (F := F) xM hx oM ho sM hs cc0_scratch1 cc0_scratch2 w m e v = (do
    put 1 v
    recvWait w 2 0 <| do
      recvWait w 2 1 <| do
        recvWait w 2 2 <| do
          recvWait w 2 3 <| do
            let ms ← loadAll 2 0
            let ss ← loadAll 2 1
            put 2 (k0_pay35 m e ms ss)) := by
  rw [k0_part23_eq_skeleton]; rfl

set_option maxRecDepth 65536 in
theorem part24_eq (w : BitVec 32) (m : FVec F S512 .bf16) (e : FVec F S512x2048 .bf16) :
    k0_part24 (F := F) xM hx oM ho sM hs cc0_scratch1 cc0_scratch2 w m e = (do
    recvWait w 3 0 <| do
      recvWait w 3 1 <| do
        recvWait w 3 2 <| do
          recvWait w 3 3 <| do
            let ms ← loadAll 3 0
            let ss ← loadAll 3 1
            put 3 (k0_pay35 m e ms ss)
            pure (Scalar.cmpi .ne w 0#32)) := by
  rw [k0_part24_eq_skeleton]; rfl

set_option maxRecDepth 65536 in
theorem part25_eq (w : BitVec 32) :
    k0_part25 (F := F) xM hx oM ho sM hs cc0_scratch1 cc0_scratch2 w (Scalar.cmpi .ne w 0#32) = (do
    sendWait w 0 0 <| do
      sendWait w 0 1 <| do
        sendWait w 0 2 <| do
          sendWait w 0 3 <| do
            sendWait w 1 0 <| do
              sendWait w 1 1 <| do
                sendWait w 1 2 <| do
                  sendWait w 1 3 <| do
                    sendWait w 2 0 <| do
                      sendWait w 2 1 <| do
                        pure (Scalar.cmpi .ne w 2#32)) := by
  rw [k0_part25_eq_skeleton]; rfl

end Parts

set_option maxRecDepth 65536 in
/-- The printed body is the regrouped one. -/
theorem body_eq (hx : (xM : Memref sig .tc .vmem S2048x2048 .bf16).IsWhole) (ho : (oM : Memref sig .tc .vmem S2048x2048 .bf16).IsWhole)
    (hs : (sM : Memref sig .tc .vmem S4x4x2x512 .f32).IsWhole) :
    cc0_body (F := F) xM hx oM ho sM hs cc0_scratch1 cc0_scratch2 = program := by
  rw [cc0_body_eq_skeleton]
  unfold cc0_body_skel program
  simp only [part17_eq, part18_eq, part19_eq, part20_eq, part21_eq, part22_eq, part23_eq, part24_eq, part25_eq, bind_assoc, pure_bind,
    share_bind, recvWait_bind, sendWait_bind, shareAll, finish, gather, drain]
  rfl

end Cert.Softmax

end
-- ==== Proof.Cells.lean ====
/-
The exchange buffer's slots, the exchange's semaphores, and the contents the slots get.

Slot (ch, i) of the exchange buffer is for the statistics of chunk `ch` of device `i`; on every device the finished buffer is the same one,
`shared m` below. The semaphores are the runtime's barrier semaphore, one send semaphore for every chunk and destination, and one receive
semaphore for every chunk and source.
-/
module

public import proofs.«01_k».proof.Proof.Program
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.ShareLeaves

@[expose] public section

noncomputable section

namespace Cert.Softmax

open Cert.KernelIdeal Cert.KernelIdeal.Gen
open Idealize.ShloMosaic Idealize.ShloMosaic.TcCoe
open Idealize.SL Idealize.SL.Sem

variable {F : FTy → Type} [FloatOps F]

/-! ## The semaphores -/

/-- A semaphore of the exchange: the barrier's (`none`), chunk `ch`'s to device `j` (`some (false, ch, j)`, counts the copy as sent), or chunk
    `ch`'s from device `i` (`some (true, ch, i)`, counts the copy as arrived). -/
abbrev CI : Type := Option (Bool × Fin 4 × Fin 4)

def csem : CI → SemLoc sig
  | none => .reg barS
  | some (false, ch, j) => .dma (sendS ch j)
  | some (true, ch, i) => .dma (recvS ch i)

theorem csem_injective : Function.Injective csem := by decide

/-- The kernel's own semaphores: all of them but the barrier's. -/
abbrev osem (x : Bool × Fin 4 × Fin 4) : SemLoc sig := csem (some x)

/-- A device's semaphore. -/
abbrev kcell (q : Dev nD × CI) : GSem nD τ sig := ((q.1 : Thread nD τ), csem q.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- Which of the exchange's semaphores one is, if any. -/
def dec : SemLoc sig → Option CI := Function.partialInv csem

theorem dec_csem (k : CI) : dec (csem k) = some k := Function.partialInv_left csem_injective k

theorem dec_of_ne {s : SemLoc sig} (h : ∀ k, csem k ≠ s) : dec s = none := by
  unfold dec Function.partialInv
  exact dif_neg fun ⟨k, hk⟩ => h k hk

/-- The count of one copy. -/
def N : ℕ := (slotM 0 0).view.dmaCredit
theorem N_pos : 0 < N := View.dmaCredit_pos _ (by decide)
theorem credit_eq (ch i : Fin 4) : (slotM ch i).view.dmaCredit = N := rfl

theorem amount_slot (ch i : Fin 4) (x : Bool × Fin 4 × Fin 4) : (slotM ch i).view.amount (csem (some x)) = N := by
  rcases x with ⟨_ | _, _, _⟩ <;> rfl

/-- The count of one signal. -/
def amt : CI → ℕ
  | none => 1
  | some _ => N
theorem amt_pos (k : CI) : 0 < amt k := by
  cases k
  · exact Nat.one_pos
  · exact N_pos

/-! ## The slots -/

abbrev slotSet (ch i : Fin 4) : Finset S4x4x2x512.Idx := (slotR ch i).set

theorem mem_slotSet {ch i : Fin 4} {x : S4x4x2x512.Idx} : x ∈ slotSet ch i ↔ (x 0).val = ch.val ∧ (x 1).val = i.val := by
  rw [Rect.mem_set_unit]
  constructor
  · intro h
    have h0 := h 0
    have h1 := h 1
    simp only [Matrix.cons_val_zero, Matrix.cons_val_one, Matrix.cons_val] at h0 h1
    have e0 : S1x1x2x512.size 0 = 1 := rfl
    have e1 : S1x1x2x512.size 1 = 1 := rfl
    omega
  · rintro ⟨h0, h1⟩ a
    have hx := (x a).isLt
    fin_cases a
    · exact ⟨by simp [h0], by simp [h0]⟩
    · exact ⟨by simp [h1], by simp [h1]⟩
    · exact ⟨Nat.zero_le _, by simpa using hx⟩
    · exact ⟨Nat.zero_le _, by simpa using hx⟩

theorem slot_disjoint {p p' : Fin 4 × Fin 4} (h : p ≠ p') : Disjoint (slotSet p.1 p.2) (slotSet p'.1 p'.2) := by
  rw [Finset.disjoint_left]
  intro x hx hx'
  rw [mem_slotSet] at hx hx'
  exact h (Prod.ext (Fin.ext (hx.1.symm.trans hx'.1)) (Fin.ext (hx.2.symm.trans hx'.2)))

theorem slot_cover : Finset.univ.biUnion (fun p : Fin 4 × Fin 4 => slotSet p.1 p.2) = Finset.univ := by
  refine Finset.eq_univ_iff_forall.mpr fun x => Finset.mem_biUnion.mpr ⟨(⟨(x 0).val, (x 0).isLt⟩, ⟨(x 1).val, (x 1).isLt⟩), Finset.mem_univ _, ?_⟩
  exact mem_slotSet.mpr ⟨rfl, rfl⟩

/-- The slots of one chunk. -/
def region (ch : Fin 4) : Finset S4x4x2x512.Idx := Finset.univ.biUnion (slotSet ch)

theorem all_subset (ch : Fin 4) (k : Fin 2) : (allR ch k).set ⊆ region ch := by
  intro x hx
  have h0 := Rect.mem_set_unit.mp hx 0
  refine Finset.mem_biUnion.mpr ⟨⟨(x 1).val, (x 1).isLt⟩, Finset.mem_univ _, mem_slotSet.mpr ⟨?_, rfl⟩⟩
  simp only [Matrix.cons_val_zero] at h0
  have e0 : S1x4x1x512.size 0 = 1 := rfl
  omega

theorem slotM_set (ch i : Fin 4) : (slotM ch i).view.set = slotSet ch i := by
  simp only [Memref.view_squeeze, View.set_reshape]
  exact View.set_slice_whole _ _

/-! ## The contents -/

variable (m : (ℓ : Loc nD τ sig) → Buf (Elt F) ℓ)

/-- Device `c`'s block of `x`, as the pipeline brings it in. -/
def xstg (c : Dev nD) : (cc0_stg0_0 : Ref sig .tc).ty.Contents (Elt F) :=
  (win0_0.blk (0 : Fin 1)).view.read (Elt F) (m ((c : Thread nD τ).loc main_arg0))

/-- Its rows of chunk `ch`; -/
def xch (c : Dev nD) (ch : Fin 4) : Vec F S512x2048 .bf16 :=
  (xM : Memref sig .tc .vmem S2048x2048 .bf16).view.readAt (Elt F) (chunkR ch).toLoadRect (xstg m c)

/-- their statistics, as they are stored; -/
def stored (c : Dev nD) (ch : Fin 4) : Vec F S1x1x2x512 .f32 := k0_pay1 (k0_pay20 (xch m c ch))

/-- The place inside its slot of an element of the exchange buffer. -/
def inSlot (x : S4x4x2x512.Idx) : S1x1x2x512.Idx :=
  fun a => ⟨(x a).val % S1x1x2x512.size a, Nat.mod_lt _ (by revert a; decide)⟩

/-- The finished exchange buffer. -/
def shared : (cc0_scratch0 : Ref sig .tc).ty.Contents (Elt F) :=
  fun x : S4x4x2x512.Idx => stored m (⟨(x 1).val, (x 1).isLt⟩ : Fin 4) ⟨(x 0).val, (x 0).isLt⟩ (inSlot x)

/-- One statistic of chunk `ch`, of all four devices. -/
def stats (ch : Fin 4) (k : Fin 2) : Vec F S1x4x1x512 .f32 :=
  (sM : Memref sig .tc .vmem S4x4x2x512 .f32).view.readAt (Elt F) (allR ch k).toLoadRect (shared m)

/-- Chunk `ch` of device `c`'s result; -/
def outch (c : Dev nD) (ch : Fin 4) : FVec F S512x2048 .bf16 :=
  k0_pay35 (k0_pay18 (xch m c ch)) (k0_pay19 (xch m c ch)) (stats m ch 0) (stats m ch 1)

/-- the chunk of a row, and its place in the chunk; -/
def chunkOf (x : S2048x2048.Idx) : Fin 4 := ⟨(x 0).val / 512, Nat.div_lt_of_lt_mul (x 0).isLt⟩
def inChunk (x : S2048x2048.Idx) : S512x2048.Idx :=
  fun a => ⟨(x a).val % S512x2048.size a, Nat.mod_lt _ (by revert a; decide)⟩

/-- Device `c`'s result. -/
def outAt (c : Dev nD) : (cc0_stg1_0 : Ref sig .tc).ty.Contents (Elt F) :=
  fun x : S2048x2048.Idx => outch m c (chunkOf x) (inChunk x)

theorem slot_emb (x : S4x4x2x512.Idx) (a : Fin 4) :
    (![(x 0).val, (x 1).val, 0, 0] : Fin 4 → ℕ) a + 1 * (inSlot x a).val = (x a).val := by
  have hx := (x a).isLt
  fin_cases a
  · show (x 0).val + 1 * ((x 0).val % 1) = (x 0).val; omega
  · show (x 1).val + 1 * ((x 1).val % 1) = (x 1).val; omega
  · show 0 + 1 * ((x 2).val % 2) = (x 2).val
    have : (x 2).val < 2 := hx
    omega
  · show 0 + 1 * ((x 3).val % 512) = (x 3).val
    have : (x 3).val < 512 := hx
    omega

/-- Storing the statistics makes the slot's finished contents, whatever the buffer held. -/
theorem store_slot (ch i : Fin 4) (f : (cc0_scratch0 : Ref sig .tc).ty.Contents (Elt F)) (x : S4x4x2x512.Idx) (hx : x ∈ slotSet ch i) :
    ((sM : Memref sig .tc .vmem S4x4x2x512 .f32).access (slotR ch i)).write (Elt F) f (stored m (i : Fin 4) ch) Finset.univ x = shared m x := by
  obtain ⟨h0, h1⟩ := mem_slotSet.mp hx
  obtain rfl : ch = ⟨(x 0).val, (x 0).isLt⟩ := Fin.ext h0.symm
  obtain rfl : i = ⟨(x 1).val, (x 1).isLt⟩ := Fin.ext h1.symm
  have e : ((sM : Memref sig .tc .vmem S4x4x2x512 .f32).access (slotR ⟨(x 0).val, (x 0).isLt⟩ ⟨(x 1).val, (x 1).isLt⟩)).emb (inSlot x) = x :=
    funext fun a => Fin.ext (slot_emb x a)
  calc _ = ((sM : Memref sig .tc .vmem S4x4x2x512 .f32).access (slotR ⟨(x 0).val, (x 0).isLt⟩ ⟨(x 1).val, (x 1).isLt⟩)).write (Elt F) f
            (stored m (⟨(x 1).val, (x 1).isLt⟩ : Fin 4) ⟨(x 0).val, (x 0).isLt⟩) Finset.univ
            (((sM : Memref sig .tc .vmem S4x4x2x512 .f32).access (slotR ⟨(x 0).val, (x 0).isLt⟩ ⟨(x 1).val, (x 1).isLt⟩)).emb (inSlot x)) := by rw [e]
    _ = _ := View.write_emb_of_mem _ _ (Finset.mem_univ _)

/-- A landing copy of a slot makes the slot's contents those of its source. -/
theorem copy_slot (ch i : Fin 4) (fd fs : (cc0_scratch0 : Ref sig .tc).ty.Contents (Elt F)) (x : S4x4x2x512.Idx) (hx : x ∈ slotSet ch i) :
    (slotM ch i).view.write (Elt F) fd ((slotM ch i).view.read (Elt F) fs) Finset.univ x = fs x := by
  rw [← slotM_set] at hx
  rw [View.write_read_eq_piecewise]
  exact Finset.piecewise_eq_of_mem _ _ _ hx

theorem chunk_setOn (ch : Fin 4) :
    ((oM : Memref sig .tc .vmem S2048x2048 .bf16).access (chunkR ch)).setOn Finset.univ = (chunkR ch).set := View.set_slice_whole _ _

theorem chunk_emb (x : S2048x2048.Idx) (a : Fin 2) :
    (![512 * (chunkOf x).val, 0] : Fin 2 → ℕ) a + 1 * (inChunk x a).val = (x a).val := by
  have hx := (x a).isLt
  fin_cases a
  · show 512 * ((x 0).val / 512) + 1 * ((x 0).val % 512) = (x 0).val
    omega
  · show 0 + 1 * ((x 1).val % 2048) = (x 1).val
    have : (x 1).val < 2048 := hx
    omega

/-- Writing chunk `ch` of the result over rows that are right before it makes the rows up to its end right. -/
theorem put_rows (c : Dev nD) (ch : Fin 4) (f : (cc0_stg1_0 : Ref sig .tc).ty.Contents (Elt F))
    (hf : ∀ x : S2048x2048.Idx, (x 0).val < 512 * ch.val → f x = outAt m c x) (x : S2048x2048.Idx) (hx : (x 0).val < 512 * (ch.val + 1)) :
    ((oM : Memref sig .tc .vmem S2048x2048 .bf16).access (chunkR ch)).write (Elt F) f (outch m c ch) Finset.univ x = outAt m c x := by
  by_cases h : (x 0).val < 512 * ch.val
  · rw [← hf x h]
    refine View.write_of_not_mem _ _ _ fun hm => ?_
    have h0 := Rect.mem_set_unit.mp (chunk_setOn ch ▸ hm) 0
    exact absurd h0.1 (Nat.not_le.mpr h)
  · obtain rfl : ch = chunkOf x := Fin.ext (show ch.val = (x 0).val / 512 by omega)
    have e : ((oM : Memref sig .tc .vmem S2048x2048 .bf16).access (chunkR (chunkOf x))).emb (inChunk x) = x :=
      funext fun a => Fin.ext (chunk_emb x a)
    calc _ = ((oM : Memref sig .tc .vmem S2048x2048 .bf16).access (chunkR (chunkOf x))).write (Elt F) f (outch m c (chunkOf x)) Finset.univ
              (((oM : Memref sig .tc .vmem S2048x2048 .bf16).access (chunkR (chunkOf x))).emb (inChunk x)) := by rw [e]
      _ = _ := View.write_emb_of_mem _ _ (Finset.mem_univ _)

end Cert.Softmax

end
-- ==== Proof.Protocol.lean ====
/-
The protocol of the exchange, before any step of it is proved.

Every semaphore has one round. On device `c`:

* the barrier semaphore gets one unit from each other device `d`, by `d`'s signal, and is waited for once, for three units. `d`'s unit hands
  over device `d`'s four slots (ch, c), at any contents: the places where `c` may write on `d`;
* the receive semaphore (ch, i), `i` not `c`, gets the count of one copy from device `i`'s copy, and is waited for once, for that count. The
  landing hands over slot (ch, i) of `c`, holding the statistics of chunk `ch` of device `i`;
* the send semaphore (ch, j), `j` not `c`, gets the same count from `c`'s own copy to device `j`, and is waited for once, for that count. It hands
  back the share of slot (ch, c) of `c` that the copy read from, its contents unchanged;
* the receive and send semaphores (ch, c) are never used.

A device signals the three others, waits for its barrier, makes all its copies chunk by chunk, and then waits for arrivals and then for sends. So
barrier semaphores come before receive semaphores in the order of waiting: whoever waits for the barrier owes copies only, and whoever waits
for a copy owes nothing.

A slot that is sent is read by three copies and by the device itself at the same time, so its share is cut in four, one part for each device it
goes to and one that stays.
-/
module

public import proofs.«01_k».proof.Proof.Cells

@[expose] public section

noncomputable section

namespace Cert.Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's own, and the exchange's, whose duties are named by the device that pays or is paid -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Slots held -/

/-- The part of a slot's share that goes with device `j`. -/
def part (j : Fin 4) : PosShare TreeShare := ShareLeaves.leaf 2 fullShare (finCongr (by decide : 4 = 2 ^ 2) j)

/-- Slot (ch, i) of device `c`, held at share `q` with contents `f`. -/
def slot (c : Dev nD) (ch i : Fin 4) (q : PosShare TreeShare) (f : (cc0_scratch0 : Ref sig .tc).ty.Contents (Elt F)) : sProp 𝕄 :=
  ((c : Thread nD τ).loc cc0_scratch0) ↦[slotSet ch i]{q} f

omit [FloatOps F] in
instance slot_storable (c : Dev nD) (ch i : Fin 4) (q : PosShare TreeShare) (f) :
    BI.Storable (upEmb : UEmb _ 𝕄) (slot (F := F) c ch i q f) := by unfold slot; infer_instance

omit [FloatOps F] in
/-- A slot is its four parts. -/
theorem slot_parts (c : Dev nD) (ch i : Fin 4) (f : (cc0_scratch0 : Ref sig .tc).ty.Contents (Elt F)) :
    slot c ch i fullShare f = (bigSep Finset.univ fun j => slot c ch i (part j) f : sProp 𝕄) := by
  unfold slot part
  have h := ShareLeaves.pointsTo_leaves (Ix := Unit) (Val := Elt F) (Name := ℕ) (U := UU) (Lvl := ℕ) (ℓ := (c : Thread nD τ).loc cc0_scratch0) (slotSet ch i) f 2 fullShare
  rw [h, bigSep_univ_equiv (finCongr (by decide : 4 = 2 ^ 2))]

omit [FloatOps F] in
/-- The slot as a copy holds it. -/
theorem slot_view (c : Dev nD) (ch i : Fin 4) (q : PosShare TreeShare) (f : (cc0_scratch0 : Ref sig .tc).ty.Contents (Elt F)) :
    ((slotM ch i).view.loc (c : Thread nD τ) ↦[(slotM ch i).view.set]{q} f : sProp 𝕄) = slot c ch i q f := by
  rw [slotM_set]; rfl

/-! ## The schedule -/

/-- Who pays (or, for a send, is sent to) at a semaphore. -/
def dutiesOf (c : Dev nD) : CI → Finset (Dev nD)
  | none => Finset.univ.erase c
  | some (_, _, i) => if i = c then ∅ else {i}

/-- What device `d`'s unit hands device `c`: the slots of `d` that `c` may write. -/
def barPay (c d : Dev nD) : sProp 𝕄 := bigSep Finset.univ fun ch : Fin 4 => iprop(∃ f, slot d ch c fullShare f)

/-- What a semaphore's duty hands over. -/
def payOf (c : Dev nD) : CI → Dev nD → sProp 𝕄
  | none, d => barPay c d
  | some (false, ch, j), _ => slot c ch c (part j) (shared m)
  | some (true, ch, i), _ => slot c ch i fullShare (shared m)

omit [FloatOps F] in
instance barPay_storable (c d : Dev nD) : BI.Storable (upEmb : UEmb _ 𝕄) (barPay (F := F) c d) := by unfold barPay; infer_instance

instance payOf_storable (c : Dev nD) (k : CI) (d : Dev nD) : BI.Storable (upEmb : UEmb _ 𝕄) (payOf m c k d) := by
  rcases k with _ | ⟨_ | _, ch, i⟩ <;> unfold payOf <;> infer_instance

/-- The schedule: one round for every semaphore of the exchange, none for any other. -/
def sched : Rounds.Schedule (GSem nD τ sig) (Dev nD) 𝕄 where
  duties g r := if r = 0 ∧ g.1.2 = .tc then (dec g.2).elim ∅ (dutiesOf g.1.1) else ∅
  unitless _ := False
  amount g _ _ := (dec g.2).elim 1 amt
  payload g _ d := (dec g.2).elim iprop(emp) fun k => payOf m g.1.1 k d
  amount_pos g _ _ _ := by
    cases h : dec g.2
    · exact Nat.one_pos
    · exact amt_pos _

instance sched_storable (g : GSem nD τ sig) (r : ℕ) (d : Dev nD) : BI.Storable (upEmb : UEmb _ 𝕄) ((sched (F := F) m).payload g r d) := by
  show BI.Storable upEmb ((dec g.2).elim iprop(emp) fun k => payOf m g.1.1 k d)
  cases dec g.2 <;> dsimp only [Option.elim] <;> infer_instance

section Tables
variable (c : Dev nD) (k : CI) (d : Dev nD)

theorem duties_eq : (sched (F := F) m).duties (kcell (c, k)) 0 = dutiesOf c k := by
  dsimp only [sched]
  rw [if_pos ⟨rfl, rfl⟩, dec_csem]; rfl
theorem duties_later (g : GSem nD τ sig) : ∀ r, 1 ≤ r → (sched (F := F) m).duties g r = ∅ := fun r hr => by
  dsimp only [sched]; exact if_neg fun h => by omega
theorem duties_idle (b : Bool) (ch : Fin 4) : ∀ r, 0 ≤ r → (sched (F := F) m).duties (kcell (c, some (b, ch, c))) r = ∅ := fun r hr => by
  rcases Nat.eq_zero_or_pos r with rfl | h
  · rw [duties_eq]; exact if_pos rfl
  · exact duties_later m _ r h
theorem amount_eq : (sched (F := F) m).amount (kcell (c, k)) 0 d = amt k := by
  show (dec (csem k)).elim 1 amt = _
  rw [dec_csem]; rfl
theorem payload_eq : (sched (F := F) m).payload (kcell (c, k)) 0 d = payOf m c k d := by
  show (dec (csem k)).elim iprop(emp) (fun k => payOf m c k d) = _
  rw [dec_csem]; rfl
theorem expect_eq : (sched (F := F) m).expect (kcell (c, k)) 0 = (dutiesOf c k).card * amt k := by
  unfold Schedule.expect Schedule.amountOf
  rw [duties_eq, Finset.sum_congr rfl fun d _ => amount_eq m c k d, Finset.sum_const, smul_eq_mul]
theorem rest_eq : bigSep ((sched (F := F) m).duties (kcell (c, k)) 0 \ ∅) (fun d => (sched (F := F) m).payload (kcell (c, k)) 0 d)
    = bigSep (dutiesOf c k) (payOf m c k) := by
  rw [Finset.sdiff_empty, duties_eq]; exact bigSep_congr fun d _ => payload_eq m c k d

end Tables

/-! ## What a device owes -/

/-- What is still to pay, as a list of semaphores, each to be paid once. -/
def owedOf (l : List (Dev nD × CI)) : CellTallies nD τ sig Unit := (l.map fun q => tallyAt (kcell q) () (amt q.2)).sum

theorem owedOf_nil : owedOf [] = 0 := rfl
theorem owedOf_cons (q : Dev nD × CI) (l : List (Dev nD × CI)) : owedOf (q :: l) = owedOf l + tallyAt (kcell q) () (amt q.2) :=
  (List.sum_cons).trans (add_comm _ _)

/-- Chunk `ch`'s copies, then `l`. -/
def copies (c : Dev nD) (ch : Fin 4) (l : List (Dev nD × CI)) : List (Dev nD × CI) :=
  (c + 1, some (true, ch, c)) :: (c + 2, some (true, ch, c)) :: (c + 3, some (true, ch, c)) :: l

/-- The copies of all chunks from `ch` on. -/
abbrev due3 (c : Dev nD) : List (Dev nD × CI) := copies c 3 []
abbrev due2 (c : Dev nD) : List (Dev nD × CI) := copies c 2 (due3 c)
abbrev due1 (c : Dev nD) : List (Dev nD × CI) := copies c 1 (due2 c)
abbrev due0 (c : Dev nD) : List (Dev nD × CI) := copies c 0 (due1 c)
/-- Everything a device owes at launch: its three signals and all its copies. -/
abbrev dues (c : Dev nD) : List (Dev nD × CI) := (c + 1, none) :: (c + 2, none) :: (c + 3, none) :: due0 c

def O₀ (c : Dev nD) : CellTallies nD τ sig Unit := owedOf (dues c)

/-- How much is owed at a semaphore. -/
theorem owedOf_apply (l : List (Dev nD × CI)) (q : Dev nD × CI) : owedOf l (kcell q) () = l.count q * amt q.2 := by
  induction l with
  | nil => rw [List.count_nil, Nat.zero_mul]; rfl
  | cons p l ih =>
    rw [owedOf_cons, Pi.add_apply, Finsupp.add_apply, ih, tallyAt_apply, List.count_cons, Nat.add_mul]
    congr 1
    by_cases h : p = q
    · subst h; simp
    · rw [if_neg fun h' => h (kcell_injective h'.1.symm), if_neg (by simpa using h), Nat.zero_mul]

/-- Only semaphores in the list are owed. -/
theorem owedOf_pos {l : List (Dev nD × CI)} {g : GSem nD τ sig} {u : Unit} (h : 0 < owedOf l g u) : ∃ q ∈ l, g = kcell q := by
  induction l with
  | nil => exact absurd h (Nat.lt_irrefl 0)
  | cons p l ih =>
    rw [owedOf_cons, Pi.add_apply, Finsupp.add_apply, tallyAt_apply] at h
    by_cases hp : g = kcell p
    · exact ⟨p, List.mem_cons_self, hp⟩
    · rw [if_neg fun h' => hp h'.1, Nat.add_zero] at h
      obtain ⟨q, hq, e⟩ := ih h
      exact ⟨q, List.mem_cons_of_mem _ hq, e⟩

/-! ## The order of waiting -/

/-- The order: staging and send semaphores, then barrier semaphores, then receive semaphores. -/
def rank : CI → ℕ
  | none => 1
  | some (false, _, _) => 0
  | some (true, _, _) => 2

def L (g : GSem nD τ sig) : Finset Unit := if g.1.2 = .tc then {()} else ∅
def lv (g : GSem nD τ sig) (_ : Unit) : ℕ := (dec g.2).elim 0 rank

theorem L_of_ne (g : GSem nD τ sig) (h : g.1.2 ≠ .tc) : L g = ∅ := if_neg h
theorem L_tc (c : Dev nD) (sm : SemLoc sig) : L ((c : Thread nD τ), sm) = {()} := if_pos rfl
theorem lv_kcell (q : Dev nD × CI) (u : Unit) : lv (kcell q) u = rank q.2 := by
  show (dec (csem q.2)).elim 0 rank = _
  rw [dec_csem]; rfl

omit [FloatOps F] in
/-- A semaphore may be waited for while only semaphores after it in the order are owed. -/
theorem mayWait_of (c : Dev nD) (sm : SemLoc sig) (l : List (Dev nD × CI)) (n : ℕ) (hs : lv ((c : Thread nD τ), sm) () ≤ n)
    (hl : ∀ q ∈ l, n < rank q.2) : (levAts L lv : sProp 𝕄) ⊢ MayWait (c : Thread nD τ) sm () (owedOf l) :=
  MayOwe.of_cut (L := L) (lev := lv) n (fun p hp => by rw [Finset.mem_singleton.mp hp, L_tc]; exact Finset.mem_singleton_self _)
    (fun g u hg => by obtain ⟨q, -, rfl⟩ := owedOf_pos hg; rw [L_tc]; exact Finset.mem_singleton_self _)
    (fun p hp => by rw [Finset.mem_singleton.mp hp]; exact hs)
    (fun g u hg => by obtain ⟨q, hq, rfl⟩ := owedOf_pos hg; rw [lv_kcell]; exact hl q hq)

omit [FloatOps F] in
theorem mayWait_bar (c : Dev nD) : (levAts L lv : sProp 𝕄) ⊢ MayWait (c : Thread nD τ) (csem none) () (owedOf (due0 c)) :=
  mayWait_of c (csem none) (due0 c) 1 (le_of_eq (lv_kcell (c, none) ())) (by revert c; decide)

omit [FloatOps F] in
theorem mayWait_stage (c : Dev nD) (sm : SemLoc sig) (h : ∀ k, csem k ≠ sm) :
    (levAts L lv : sProp 𝕄) ⊢ MayWait (c : Thread nD τ) sm () (O₀ c) :=
  mayWait_of c sm (dues c) 0 (le_of_eq (by show (dec sm).elim 0 rank = 0; rw [dec_of_ne h]; rfl)) (by revert c; decide)

end Cert.Softmax

end
-- ==== Proof.Steps.lean ====
/-
The steps of the body, each once: a signal, a copy, a chunk's sharing, a wait, a chunk's waits.

Everything the launch allots once and for all — the invariant of every semaphore of the mesh, and that every one has come to round 0 — is in `records`,
which every step may use.
-/
module

public import proofs.«01_k».proof.Proof.Protocol

@[expose] public section

noncomputable section

namespace Cert.Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program run on device `c`'s core to `Q`. -/
abbrev runs {α : Type} (c : Dev nD) (p : Step F α) (Q : α → sProp 𝕄) : sProp 𝕄 :=
  wp frame (wpE (defs₀ (F := F)) 𝒱₀ (c : Thread nD τ) none) Set.univ p Q

/-! ## What the launch allots once and for all -/

/-- The invariants of all semaphores of the mesh, under the names `K`, and that each has come to round 0. -/
def records (K : Dev nD × CI → ℕ) : sProp 𝕄 :=
  iprop((bigSep Finset.univ fun q : Dev nD × CI => cellInv ER (sched m) (K q) (kcell q))
    ∗ bigSep Finset.univ fun q : Dev nD × CI => reached ER (kcell q) 0)

instance records_persistent (K : Dev nD × CI → ℕ) : BI.Persistent (records m K) := by unfold records; infer_instance

theorem records_inv (K : Dev nD × CI → ℕ) (q : Dev nD × CI) : records m K ⊢ cellInv ER (sched m) (K q) (kcell q) := by
  unfold records
  iintro ⟨H, -⟩
  iapply (show (bigSep Finset.univ fun q : Dev nD × CI => (cellInv ER (sched m) (K q) (kcell q) : sProp 𝕄)) ⊢ cellInv ER (sched m) (K q) (kcell q) from
    bigSep_elim (Finset.mem_univ q)) $$ H

theorem records_reached (K : Dev nD × CI → ℕ) (q : Dev nD × CI) : records m K ⊢ reached ER (kcell q) 0 := by
  unfold records
  iintro ⟨-, H⟩
  iapply (show (bigSep Finset.univ fun q : Dev nD × CI => (reached ER (kcell q) 0 : sProp 𝕄)) ⊢ reached ER (kcell q) 0 from
    bigSep_elim (Finset.mem_univ q)) $$ H

variable (K : Dev nD × CI → ℕ) (c : Dev nD)

theorem ne_add (c : Dev nD) : c + 1 ≠ c ∧ c + 2 ≠ c ∧ c + 3 ≠ c := by revert c; decide

/-! ## A copy -/

/-- What device `c` needs for its copy of chunk `ch` to device `j`: the slot on `j`, and the two duties the copy pays. -/
def kit (c : Dev nD) (ch : Fin 4) (j : Dev nD) : sProp 𝕄 :=
  iprop((∃ f, slot j ch c fullShare f) ∗ dutyTok ER (kcell (c, some (false, ch, j))) 0 j ∗ dutyTok ER (kcell (j, some (true, ch, c))) 0 c)

/-- What it gets: that it may wait for the copy to be sent. -/
def sent (c : Dev nD) (ch : Fin 4) (j : Dev nD) : sProp 𝕄 := cred (tallyAt (kcell (c, some (false, ch, j))) () N)

omit [FloatOps F] in
/-- A slot's contents matter at its own elements only. -/
theorem slot_congr (c : Dev nD) (ch i : Fin 4) (q : PosShare TreeShare) (f g : (cc0_scratch0 : Ref sig .tc).ty.Contents (Elt F))
    (h : ∀ x ∈ slotSet ch i, f x = g x) : (slot c ch i q f : sProp 𝕄) = slot c ch i q g := by
  have e := pointsTo_congr (Ix := Unit) (Name := ℕ) (U := UU) (Lvl := ℕ) (ℓ := (c : Thread nD τ).loc cc0_scratch0) (q := q) h
  unfold slot; exact e

/-- The copy of chunk `ch`'s statistics to device `j`. -/
theorem wp_copy (ch : Fin 4) (j : Dev nD) (hj : j ≠ c) (l : List (Dev nD × CI)) (W : Waits sig Unit)
    {hsc : (slotM ch c : Memref sig (Dev.tc j : Thread nD τ).2.kind .vmem S2x512 .f32).view.ref.isScScratch = false}
    {hsrc : (slotM ch c).view.WordExact} {hdst : (slotM ch c).view.WordExact}
    {hsem : DmaTarget.Typed .vmem (.dma (recvS ch c)) (.remote (Dev.tc j : Thread nD τ) (slotM ch c) (.dma (sendS ch j)) hsc)}
    {α : Type} {Q : α → sProp 𝕄} {k : PUnit → Step F α} :
    iprop(records m K ∗ slot c ch c (part j) (shared m) ∗ kit c ch j ∗ owes (c : Thread nD τ) (owedOf ((j, some (true, ch, c)) :: l)) W)
      ⊢ iprop(((sent c ch j ∗ owes (c : Thread nD τ) (owedOf l) W) -∗ runs c (k ⟨⟩) Q)
          -∗ runs c (.op (.enqueueDma (slotM ch c) (.remote (Dev.tc j : Thread nD τ) (slotM ch c) (.dma (sendS ch j)) hsc) (.dma (recvS ch c)) hsrc hdst hsem) k) Q) := by
  unfold kit sent
  simp only [← slot_view]
  iintro ⟨#HR, Hs, ⟨⟨%fd, Hd⟩, Ht1, Ht2⟩, Ho⟩
  iapply (Rounds.wp_send_pointsTo 𝒱₀ ER (sched m) (c : Thread nD τ) none
    (sS := csem (some (false, ch, j))) (sem := csem (some (true, ch, c))) (κ₁ := K (c, some (false, ch, j))) (κ₂ := K (j, some (true, ch, c)))
    (r₁ := 0) (r₂ := 0) (d₁ := j) (d₂ := c) (fd := fd)
    (by rw [duties_eq, dutiesOf, if_neg hj]; exact Finset.mem_singleton_self _)
    (by rw [duties_eq m j (some (true, ch, c)), dutiesOf, if_neg (Ne.symm hj)]; exact Finset.mem_singleton_self _)
    () () N (by exact amount_slot ch c _) (amount_eq m c _ j) (amount_eq m j (some (true, ch, c)) c) (owedOf l) (owedOf_cons _ _) (W := W)
    (by rw [slot_view]; exact Entails.of_eq (payload_eq m c (some (false, ch, j)) j).symm)
    (by
      rw [slot_view, payload_eq m j (some (true, ch, c)) c, payOf]
      exact Entails.of_eq (slot_congr j ch c fullShare _ _ (copy_slot ch c fd (shared m))))) $$ [Hs Hd Ho Ht1 Ht2]
  isplitr; · iapply (records_inv m K (c, some (false, ch, j))); iexact HR
  isplitr; · iapply (records_inv m K (j, some (true, ch, c))); iexact HR
  isplitl [Hs]; · iexact Hs
  isplitl [Hd]; · iexact Hd
  isplitl [Ho]; · iexact Ho
  isplitl [Ht1]; · iexact Ht1
  isplitr; · iapply (records_reached m K (c, some (false, ch, j))); iexact HR
  isplitl [Ht2]; · iexact Ht2
  iapply (records_reached m K (j, some (true, ch, c))); iexact HR

/-! ## A signal -/

/-- What device `c` hands device `j` with its signal: the slots of `c` that `j` may write, and the duty's token. -/
def grant (c j : Dev nD) : sProp 𝕄 := iprop(barPay j c ∗ dutyTok ER (kcell (j, none)) 0 c)

theorem wp_signal (n j : Dev nD) (hn : n = j) (hj : j ≠ c) (l : List (Dev nD × CI)) (W : Waits sig Unit) {α : Type} {Q : α → sProp 𝕄}
    {k : PUnit → Step F α} :
    iprop(records m K ∗ grant c j ∗ owes (c : Thread nD τ) (owedOf ((j, none) :: l)) W)
      ⊢ iprop((owes (c : Thread nD τ) (owedOf l) W -∗ runs c (k ⟨⟩) Q)
          -∗ runs c (.op (.semSignal (n : Thread nD τ) barS (1#32 : BitVec 32).toNat) k) Q) := by
  subst hn
  have hO : owedOf ((n, none) :: l) = owedOf l + tallyAt ((n : Thread nD τ), SemLoc.reg barS) () (1#32 : BitVec 32).toNat := owedOf_cons _ _
  have hp : barPay n c ⊢ (sched m).payload ((n : Thread nD τ), SemLoc.reg barS) 0 c := Entails.of_eq (payload_eq m n none c).symm
  unfold grant
  iintro ⟨#HR, ⟨Hp, Ht⟩, Ho⟩
  iapply (Rounds.wp_signal 𝒱₀ ER (sched m) (c : Thread nD τ) none (dst := (n : Thread nD τ)) (sem := barS) (r := 0) (κ := K (n, none)) (d := c)
    (by
      have e := duties_eq m n none
      exact e ▸ Finset.mem_erase.mpr ⟨Ne.symm hj, Finset.mem_univ _⟩)
    ((amount_eq m n none c).trans (by decide)) () (owedOf l) hO (W := W)) $$ [Hp Ht Ho]
  isplitr; · iapply (records_inv m K (n, none)); iexact HR
  isplitl [Ho]; · iexact Ho
  isplitl [Ht]; · iexact Ht
  isplitl [Hp]
  · iapply hp; iexact Hp
  iapply (records_reached m K (n, none)); iexact HR

/-! ## Sharing a chunk's statistics -/

theorem share_other {α : Type} (ch i : Fin 4) (c : Dev nD) (h : i ≠ c) (st : FVec F S2x512 .bf16) (k : Step F α) : share ch i c st k = k :=
  dif_neg (by revert c i; decide)

theorem share_self {α : Type} (ch : Fin 4) (c : Dev nD) (st : FVec F S2x512 .bf16) (k : Step F α) :
    share ch c c st k = (do
      let _ : Vec F S1x1x2x512 .f32 ← Prog.lift (.load sM (slotR ch c).toLoadRect (View.loadsAt_vmem h_S1x1x2x512))
      Prog.lift (.store sM (slotR ch c) (k0_pay1 st) Finset.univ (View.stores_vmem_bits_univ h_S1x1x2x512 rfl) (.inl rfl))
      copyTo ch c (c + 1)
      copyTo ch c (c + 2)
      copyTo ch c (c + 3)
      k) :=
  dif_pos (by revert c; decide)

/-- Of the four guarded steps of a chunk, device `c` takes its own. -/
theorem shareAll_eq {α : Type} (ch : Fin 4) (c : Dev nD) (st : FVec F S2x512 .bf16) (k : Step F α) : shareAll ch c st k = share ch c c st k := by
  unfold shareAll
  fin_cases c
  · rw [share_other ch 3 _ (by decide), share_other ch 2 _ (by decide), share_other ch 1 _ (by decide)]; rfl
  · rw [share_other ch 3 _ (by decide), share_other ch 2 _ (by decide), share_other ch 0 _ (by decide)]; rfl
  · rw [share_other ch 3 _ (by decide), share_other ch 1 _ (by decide), share_other ch 0 _ (by decide)]; rfl
  · rw [share_other ch 2 _ (by decide), share_other ch 1 _ (by decide), share_other ch 0 _ (by decide)]; rfl

omit [FloatOps F] in
/-- The others of a device. -/
theorem bigSep_others (c : Dev nD) (Φ : Dev nD → sProp 𝕄) :
    bigSep (Finset.univ.erase c) Φ = iprop(Φ (c + 1) ∗ Φ (c + 2) ∗ Φ (c + 3)) := by
  have e : Finset.univ.erase c = [c + 1, c + 2, c + 3].toFinset := by revert c; decide
  rw [bigSep_eq_bigSepL_of_eq [c + 1, c + 2, c + 3] e (by revert c; decide)]; rfl

omit [FloatOps F] in
/-- A slot is the part that stays and the three that go. -/
theorem slot_kept (c : Dev nD) (ch i : Fin 4) (f : (cc0_scratch0 : Ref sig .tc).ty.Contents (Elt F)) :
    slot c ch i fullShare f = iprop(slot c ch i (part c) f ∗ bigSep (Finset.univ.erase c) fun j => slot c ch i (part j) f : sProp 𝕄) := by
  rw [slot_parts, bigSep_univ_at _ (c : Fin 4)]

/-- What the store leaves is the slot with its finished contents, in its parts. -/
theorem slot_after_store (ch : Fin 4) (f : (cc0_scratch0 : Ref sig .tc).ty.Contents (Elt F)) :
    (((sM.access (slotR ch c)).loc (c : Thread nD τ) ↦[(slotR ch c).set]{fullShare}
        (sM.access (slotR ch c)).write (Elt F) f (k0_pay1 (k0_pay20 (xch m c ch))) Finset.univ : sProp 𝕄))
      ⊢ iprop(slot c ch c (part c) (shared m) ∗ slot c ch c (part (c + 1)) (shared m) ∗ slot c ch c (part (c + 2)) (shared m)
          ∗ slot c ch c (part (c + 3)) (shared m)) :=
  Entails.of_eq ((slot_congr c ch c fullShare _ _ (store_slot m ch c f)).trans ((slot_kept c ch c (shared m)).trans (by rw [bigSep_others])))

/-- Chunk `ch` shared: the device's own slot stored and its copies on their way, one part of the slot kept. -/
theorem wp_share (ch : Fin 4) (l : List (Dev nD × CI)) (W : Waits sig Unit) {α : Type} {Q : α → sProp 𝕄} {k : Step F α} :
    iprop(records m K ∗ (∃ f, slot c ch c fullShare f) ∗ (bigSep (Finset.univ.erase c) fun j => kit c ch j)
        ∗ owes (c : Thread nD τ) (owedOf (copies c ch l)) W)
      ⊢ iprop(((slot c ch c (part c) (shared m) ∗ (bigSep (Finset.univ.erase c) fun j => sent c ch j) ∗ owes (c : Thread nD τ) (owedOf l) W) -∗ runs c k Q)
          -∗ runs c (shareAll ch c (k0_pay20 (xch m c ch)) k) Q) := by
  rw [shareAll_eq, share_self, bigSep_others, bigSep_others]
  simp only [Prog.lift, Prog.bind_op, Prog.bind_ret]
  unfold copies
  obtain ⟨n1, n2, n3⟩ := ne_add c
  iintro ⟨#HR, ⟨%f, Hs⟩, ⟨Hk1, Hk2, Hk3⟩, Ho⟩ Hk
  ihave Hs := (show slot c ch c fullShare f
    ⊢ ((sM.access (slotR ch c)).loc (c : Thread nD τ) ↦[(slotR ch c).set]{fullShare} f : sProp 𝕄) from Entails.refl _) $$ Hs
  iapply (wp_load_rect 𝒱₀ (c : Thread nD τ) none Set.univ (m := sM) (r := slotR ch c) (subset_of_eq (View.set_slice_whole _ _))) $$ Hs; iintro Hs
  iapply (wp_store 𝒱₀ (c : Thread nD τ) none Set.univ (m := sM) (r := slotR ch c) (Mk := Finset.univ) (subset_of_eq (View.set_slice_whole _ _))) $$ Hs
  iintro Hs
  ihave Hs := (slot_after_store m c ch f) $$ Hs
  icases Hs with ⟨Hs0, Hs1, Hs2, Hs3⟩
  iapply (wp_copy m K c ch (c + 1) n1 _ W) $$ [Hs1 Hk1 Ho]
  · isplitr; · iexact HR
    isplitl [Hs1]; · iexact Hs1
    isplitl [Hk1] <;> iassumption
  iintro ⟨H1, Ho⟩
  iapply (wp_copy m K c ch (c + 2) n2 _ W) $$ [Hs2 Hk2 Ho]
  · isplitr; · iexact HR
    isplitl [Hs2]; · iexact Hs2
    isplitl [Hk2] <;> iassumption
  iintro ⟨H2, Ho⟩
  iapply (wp_copy m K c ch (c + 3) n3 _ W) $$ [Hs3 Hk3 Ho]
  · isplitr; · iexact HR
    isplitl [Hs3]; · iexact Hs3
    isplitl [Hk3] <;> iassumption
  iintro ⟨H3, Ho⟩
  iapply Hk
  isplitl [Hs0]; · iexact Hs0
  isplitl [H1 H2 H3]
  · isplitl [H1]; · iexact H1
    isplitl [H2] <;> iassumption
  iexact Ho

/-! ## Waiting for a copy -/

/-- Device `c`'s place at a semaphore of its own that counts copies, with the right to wait unless the semaphore is never used; -/
def pending (c : Dev nD) (b : Bool) (ch i : Fin 4) : sProp 𝕄 :=
  iprop(atPos ER (kcell (c, some (b, ch, i))) 0 ∅ 0 ∗ if i = c then iprop(emp) else cred (tallyAt (kcell (c, some (b, ch, i))) () N))

/-- the semaphore back at zero, with what the copy handed over. -/
def settled (c : Dev nD) (b : Bool) (ch i : Fin 4) : sProp 𝕄 :=
  iprop(semVal (kcell (c, some (b, ch, i))) 0 ∗ if i = c then iprop(emp) else payOf m c (some (b, ch, i)) i)

/-- The device owes nothing. -/
def clear (c : Dev nD) : sProp 𝕄 := iprop(∃ W, owes (c : Thread nD τ) 0 W)

/-- A semaphore never used is closed at once; -/
theorem settle_idle (b : Bool) (ch : Fin 4) : iprop(records m K ∗ pending c b ch c) ⊢ |={Set.univ}=> settled m c b ch c := by
  unfold pending settled
  rw [if_pos rfl, if_pos rfl]
  iintro ⟨#HR, Hat, -⟩
  imod (Rounds.cell_close ER (sched m) (Set.mem_univ (K (c, some (b, ch, c)))) (fun h => h) (R := 0) (duties_idle m c b ch)) $$ [Hat] with Hz
  · isplitr; · iapply (records_inv m K (c, some (b, ch, c))); iexact HR
    iexact Hat
  imodintro
  isplitl [Hz]; · iexact Hz
  iempintro

/-- one that is used is waited for, and then closed. -/
theorem wp_settle (b : Bool) (ch i s : Fin 4) (hi : i ≠ c) {q : DmaSem sig} (hq : csem (some (b, ch, i)) = .dma q)
    {hsrc hdst : (slotM ch s).view.WordExact} {α : Type} {Q : α → sProp 𝕄} {k : PUnit → Step F α} :
    iprop(records m K ∗ clear c ∗ pending c b ch i)
      ⊢ iprop(((clear c ∗ settled m c b ch i) -∗ runs c (k ⟨⟩) Q)
          -∗ runs c (.op (.waitDma2 q (slotM ch s) (slotM ch s) hsrc hdst) k) Q) := by
  have hc : ((c : Thread nD τ), SemLoc.dma q) = kcell (c, some (b, ch, i)) := congrArg (Prod.mk _) hq.symm
  have hd : dutiesOf c (some (b, ch, i)) = {i} := if_neg hi
  have hN : 0 + N = (sched m).expect ((c : Thread nD τ), SemLoc.dma q) 0 := by
    rw [hc, expect_eq, hd, Finset.card_singleton, Nat.one_mul, Nat.zero_add]; rfl
  unfold clear pending settled
  rw [if_neg hi, if_neg hi]
  iintro ⟨#HR, ⟨%W, Ho⟩, Hat, Hc⟩ Hk
  iapply (Rounds.wp_wait_rest_token 𝒱₀ ER (sched m) (c : Thread nD τ) none (κ := K (c, some (b, ch, i))) (sm := .dma q) (k' := N)
    (w := .waitDma2 q (slotM ch s) (slotM ch s) hsrc hdst)
    (wpE_waitDma2_eq 𝒱₀ (c : Thread nD τ) none Set.univ) (Set.mem_univ _) () (O := 0) (W := W) (R := 0) (m := 0) (T := ∅)
    hN) $$ [Ho Hat Hc]
  · rw [hc]
    isplitr; · iapply (records_inv m K (c, some (b, ch, i))); iexact HR
    isplitl [Hc]; · iexact Hc
    isplitl [Ho]; · iexact Ho
    isplitr; · rw [MayWait_zero]; iempintro
    iexact Hat
  rw [hc, rest_eq, hd, bigSep_singleton]
  iintro ⟨Ho, Hat, -, Hp⟩
  imod (Rounds.cell_close ER (sched m) (Set.mem_univ (K (c, some (b, ch, i)))) (fun h => h) (R := 0 + 1) (duties_later m _)) $$ [Hat] with Hz
  · isplitr; · iapply (records_inv m K (c, some (b, ch, i))); iexact HR
    iexact Hat
  iapply Hk
  isplitl [Ho]; · iexists _; iexact Ho
  isplitl [Hz] <;> iassumption

end Cert.Softmax

end
-- ==== Proof.Chunks.lean ====
/-
A chunk finished: its arrivals waited for, its row of statistics read, and its rows of the result written; and a chunk's copies waited for.
-/
module

public import proofs.«01_k».proof.Proof.Steps

@[expose] public section

noncomputable section

namespace Cert.Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The waits of a chunk -/

theorem guard_iff (c : Dev nD) (i : Fin 4) :
    Iff (Scalar.cmpi .ne (Scalar.extui (Scalar.cmpi .ne (place c) (BitVec.ofNat 32 i.val)) : BitVec 32) 0#32 = 1#1) (i ≠ c) := by
  revert c i; decide

theorem wp_recvWait (ch i : Fin 4) {α : Type} {Q : α → sProp 𝕄} {k : Step F α} :
    iprop(records m K ∗ clear c ∗ pending c true ch i)
      ⊢ iprop(((clear c ∗ settled m c true ch i) -∗ runs c k Q) -∗ runs c (recvWait (place c) ch i k) Q) := by
  unfold recvWait
  by_cases h : i = c
  · subst h
    rw [dif_neg fun g => (guard_iff i i).mp g rfl]
    iintro ⟨#HR, Ho, Hp⟩ Hk
    imod (settle_idle m K i true ch) $$ [Hp] with Hz
    · isplitr; · iexact HR
      iexact Hp
    iapply Hk
    isplitl [Ho] <;> iassumption
  · rw [dif_pos ((guard_iff c i).mpr h)]
    exact wp_settle m K c true ch i i h rfl (k := fun _ => k)

theorem wp_sendWait (ch j : Fin 4) {α : Type} {Q : α → sProp 𝕄} {k : Step F α} :
    iprop(records m K ∗ clear c ∗ pending c false ch j)
      ⊢ iprop(((clear c ∗ settled m c false ch j) -∗ runs c k Q) -∗ runs c (sendWait (place c) ch j k) Q) := by
  unfold sendWait
  by_cases h : j = c
  · subst h
    rw [dif_neg fun g => (guard_iff j j).mp g rfl]
    iintro ⟨#HR, Ho, Hp⟩ Hk
    imod (settle_idle m K j false ch) $$ [Hp] with Hz
    · isplitr; · iexact HR
      iexact Hp
    iapply Hk
    isplitl [Ho] <;> iassumption
  · rw [dif_pos ((guard_iff c j).mpr h)]
    exact wp_settle m K c false ch j 0 h rfl (k := fun _ => k)

/-- Four steps, each of which turns its own `P i` into its own `R i`, one after the other. -/
theorem wp_four (step : {α : Type} → Fin 4 → Step F α → Step F α) (P R : Fin 4 → sProp 𝕄)
    (h : ∀ (i : Fin 4) {α : Type} {Q : α → sProp 𝕄} {k : Step F α}, iprop(records m K ∗ clear c ∗ P i)
      ⊢ iprop(((clear c ∗ R i) -∗ runs c k Q) -∗ runs c (step i k) Q)) {α : Type} {Q : α → sProp 𝕄} {k : Step F α} :
    iprop(records m K ∗ clear c ∗ bigSep Finset.univ P)
      ⊢ iprop(((clear c ∗ bigSep Finset.univ R) -∗ runs c k Q) -∗ runs c (step 0 (step 1 (step 2 (step 3 k)))) Q) := by
  rw [bigSep_four, bigSep_four]
  iintro ⟨#HR, Ho, H0, H1, H2, H3⟩ Hk
  iapply (h 0) $$ [Ho H0]
  · isplitr; · iexact HR
    isplitl [Ho] <;> iassumption
  iintro ⟨Ho, H0⟩
  iapply (h 1) $$ [Ho H1]
  · isplitr; · iexact HR
    isplitl [Ho] <;> iassumption
  iintro ⟨Ho, H1⟩
  iapply (h 2) $$ [Ho H2]
  · isplitr; · iexact HR
    isplitl [Ho] <;> iassumption
  iintro ⟨Ho, H2⟩
  iapply (h 3) $$ [Ho H3]
  · isplitr; · iexact HR
    isplitl [Ho] <;> iassumption
  iintro ⟨Ho, H3⟩
  iapply Hk
  isplitl [Ho]; · iexact Ho
  isplitl [H0]; · iexact H0
  isplitl [H1]; · iexact H1
  isplitl [H2] <;> iassumption

/-- Chunk `ch`'s arrivals, waited for; -/
theorem wp_gather (ch : Fin 4) {α : Type} {Q : α → sProp 𝕄} {k : Step F α} :
    iprop(records m K ∗ clear c ∗ bigSep Finset.univ fun i => pending c true ch i)
      ⊢ iprop(((clear c ∗ bigSep Finset.univ fun i => settled m c true ch i) -∗ runs c k Q) -∗ runs c (gather (place c) ch k) Q) :=
  wp_four m K c (fun i k => recvWait (place c) ch i k) _ _ fun i => wp_recvWait m K c ch i

/-- its copies, waited for. -/
theorem wp_drain (ch : Fin 4) {α : Type} {Q : α → sProp 𝕄} {k : Step F α} :
    iprop(records m K ∗ clear c ∗ bigSep Finset.univ fun i => pending c false ch i)
      ⊢ iprop(((clear c ∗ bigSep Finset.univ fun i => settled m c false ch i) -∗ runs c k Q) -∗ runs c (drain (place c) ch k) Q) :=
  wp_four m K c (fun i k => sendWait (place c) ch i k) _ _ fun i => wp_sendWait m K c ch i

/-! ## The row of slots of a chunk -/

/-- What device `c` holds of slot (ch, i) once chunk `ch` has arrived: of its own slot the part that stayed, of the others everything. -/
def held (c : Dev nD) (ch i : Fin 4) : sProp 𝕄 :=
  if i = c then slot c ch i (part c) (shared m) else slot c ch i fullShare (shared m)

/-- The slot's parts that are not `c`'s own, as far as `c` holds them. -/
def spare (c : Dev nD) (ch i : Fin 4) : sProp 𝕄 :=
  if i = c then iprop(emp) else bigSep (Finset.univ.erase c) fun j => slot c ch i (part j) (shared m)

theorem held_eq (ch i : Fin 4) : held m c ch i = iprop(slot c ch i (part c) (shared m) ∗ spare m c ch i) := by
  unfold held spare
  split
  · exact (Entails.antisymm (sep_emp (PROP := sProp 𝕄)).1 (sep_emp (PROP := sProp 𝕄)).2).symm
  · exact slot_kept c ch i (shared m)

omit [FloatOps F] in
/-- A chunk's row of slots, held at one share. -/
theorem row_eq (ch : Fin 4) (q : PosShare TreeShare) (f : (cc0_scratch0 : Ref sig .tc).ty.Contents (Elt F)) :
    (bigSep Finset.univ fun i => slot c ch i q f : sProp 𝕄) = (((c : Thread nD τ).loc cc0_scratch0) ↦[region ch]{q} f) := by
  have e := pointsTo_biUnion (Ix := Unit) (Name := ℕ) (U := UU) (Lvl := ℕ) (ℓ := (c : Thread nD τ).loc cc0_scratch0) (q := q) (f := f)
    Finset.univ (slotSet ch) (fun i _ i' _ h => slot_disjoint (p := (ch, i)) (p' := (ch, i')) fun h' => h (congrArg Prod.snd h'))
  exact e.symm

/-- The arrivals and the part that stayed are the chunk's row as held, and the semaphores at zero. -/
theorem gathered (ch : Fin 4) :
    iprop(slot c ch c (part c) (shared m) ∗ bigSep Finset.univ fun i => settled m c true ch i)
      ⊢ iprop((bigSep Finset.univ fun i => semVal (kcell (c, some (true, ch, i))) 0) ∗ bigSep Finset.univ fun i => held m c ch i) := by
  unfold settled
  rw [bigSep_sep', bigSep_univ_at (fun i => held m c ch i) (c : Fin 4),
    bigSep_univ_at (fun i : Fin 4 => if i = c then iprop(emp) else payOf m c (some (true, ch, i)) i) (c : Fin 4),
    if_pos rfl, bigSep_congr (s := Finset.univ.erase (c : Fin 4)) (Ψ := fun i => held m c ch i)
      (fun i hi => by unfold held; rw [if_neg (Finset.ne_of_mem_erase hi), if_neg (Finset.ne_of_mem_erase hi)]; rfl),
    show held m c ch c = slot c ch c (part c) (shared m) from if_pos rfl]
  iintro ⟨Hs, Hz, -, Hp⟩
  isplitl [Hz]; · iexact Hz
  isplitl [Hs] <;> iassumption

/-! ## A chunk finished -/

/-- The result buffer, right in its first `n` chunks. -/
def outUpTo (c : Dev nD) (n : ℕ) : sProp 𝕄 :=
  iprop(∃ f : (cc0_stg1_0 : Ref sig .tc).ty.Contents (Elt F), ⌜∀ x : S2048x2048.Idx, (x 0).val < 512 * n → f x = outAt m c x⌝
    ∗ (((c : Thread nD τ).loc cc0_stg1_0) ↦{fullShare} f))

theorem wp_finish (ch : Fin 4) {α : Type} {Q : α → sProp 𝕄} {k : Step F α} :
    iprop(records m K ∗ clear c ∗ slot c ch c (part c) (shared m) ∗ (bigSep Finset.univ fun i => pending c true ch i) ∗ outUpTo m c ch.val)
      ⊢ iprop(((clear c ∗ (bigSep Finset.univ fun i => semVal (kcell (c, some (true, ch, i))) 0) ∗ (bigSep Finset.univ fun i => held m c ch i)
            ∗ outUpTo m c (ch.val + 1)) -∗ runs c k Q)
          -∗ runs c (finish (place c) ch (xch m c ch) k) Q) := by
  unfold finish
  iintro ⟨#HR, Ho, Hs, Hp, Hout⟩ Hk
  iapply (wp_gather m K c ch) $$ [Ho Hp]
  · isplitr; · iexact HR
    isplitl [Ho] <;> iassumption
  iintro ⟨Ho, Hr⟩
  ihave Hr := (gathered m c ch) $$ [Hs Hr]
  · isplitl [Hs] <;> iassumption
  icases Hr with ⟨Hz, Hr⟩
  simp only [held_eq, bigSep_sep', row_eq, Prog.lift, Prog.bind_op, Prog.bind_ret]
  icases Hr with ⟨Hr, Hsp⟩
  iapply (wp_load_rect 𝒱₀ (c : Thread nD τ) none Set.univ (m := sM) (r := allR ch 0)
    ((subset_of_eq (View.set_slice_whole _ _)).trans (all_subset ch 0))) $$ Hr; iintro Hr
  iapply (wp_load_rect 𝒱₀ (c : Thread nD τ) none Set.univ (m := sM) (r := allR ch 1)
    ((subset_of_eq (View.set_slice_whole _ _)).trans (all_subset ch 1))) $$ Hr; iintro Hr
  unfold outUpTo
  icases Hout with ⟨%f, %hf, Hout⟩
  iapply (wp_load 𝒱₀ (c : Thread nD τ) none Set.univ (m := oM) (Finset.subset_univ _)) $$ Hout; iintro Hout
  iapply (wp_store 𝒱₀ (c : Thread nD τ) none Set.univ (m := oM) (r := chunkR ch) (Mk := Finset.univ) (Finset.subset_univ _)) $$ Hout; iintro Hout
  iapply Hk
  isplitl [Ho]; · iexact Ho
  isplitl [Hz]; · iexact Hz
  isplitl [Hr Hsp]
  · isplitl [Hr] <;> iassumption
  iexists _
  isplitr
  · ipureintro; exact put_rows m c ch f hf
  iexact Hout

end Cert.Softmax

end
-- ==== Proof.Body.lean ====
/-
The body on one device: what it starts from, what it leaves, and the run from the one to the other.
-/
module

public import proofs.«01_k».proof.Proof.Chunks

@[expose] public section

noncomputable section

namespace Cert.Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- The tokens of the duties device `c` pays: its signals, and both ends of its copies. -/
def payToks (c : Dev nD) : sProp 𝕄 :=
  iprop((bigSep (Finset.univ.erase c) fun j => dutyTok ER (kcell (j, none)) 0 c)
    ∗ bigSep Finset.univ fun ch : Fin 4 => bigSep (Finset.univ.erase c) fun j =>
        iprop(dutyTok ER (kcell (c, some (false, ch, j))) 0 j ∗ dutyTok ER (kcell (j, some (true, ch, c))) 0 c))

/-- Its places at its own semaphores, all at round 0, and those tokens. -/
def linear (c : Dev nD) : sProp 𝕄 := iprop((bigSep Finset.univ fun k : CI => atPos ER (kcell (c, k)) 0 ∅ 0) ∗ payToks c)

/-- Its right to wait for what the others owe it. -/
def creds (c : Dev nD) : sProp 𝕄 :=
  iprop(cred (tallyAt (kcell (c, none)) () 3)
    ∗ bigSep Finset.univ fun ch : Fin 4 => bigSep (Finset.univ.erase c) fun i => cred (tallyAt (kcell (c, some (true, ch, i))) () N))

/-- All of it. -/
def start (c : Dev nD) : sProp 𝕄 := iprop((∃ K, records m K ∗ linear c) ∗ creds c ∗ levAts L lv)

/-- The exchange buffer, whole. -/
def scratch (c : Dev nD) (f : (cc0_scratch0 : Ref sig .tc).ty.Contents (Elt F)) : sProp 𝕄 := ((c : Thread nD τ).loc cc0_scratch0) ↦{fullShare} f

/-- Before the body; -/
def Φ₀ (c : Dev nD) : sProp 𝕄 := iprop(start m c ∗ ∃ f, scratch c f)
/-- after it: the exchange buffer finished, every semaphore of the exchange at zero. -/
def Φ₁ (c : Dev nD) : sProp 𝕄 := iprop(scratch c (shared m) ∗ bigSep Finset.univ fun k : CI => semVal (kcell (c, k)) 0)

/-! ## Regrouping -/

omit [FloatOps F] in
/-- Over all semaphores of a device: the barrier's and the exchange's own. -/
theorem bigSep_own (Φ : CI → sProp 𝕄) : bigSep Finset.univ Φ = iprop(Φ none ∗ bigSep Finset.univ fun x => Φ (some x)) := by
  have e : Finset.univ.erase (none : CI) = Finset.univ.map Function.Embedding.some := by decide
  rw [bigSep_univ_at Φ none, e, bigSep_map]
  rfl

omit [FloatOps F] in
/-- The own ones are the send ones and the receive ones. -/
theorem bigSep_cells (Φ : CI → sProp 𝕄) :
    bigSep Finset.univ Φ = iprop(Φ none ∗ (bigSep Finset.univ fun ch : Fin 4 => bigSep Finset.univ fun i : Fin 4 => Φ (some (false, ch, i)))
      ∗ bigSep Finset.univ fun ch : Fin 4 => bigSep Finset.univ fun i : Fin 4 => Φ (some (true, ch, i))) := by
  have b (Ψ : Bool → sProp 𝕄) : bigSep Finset.univ Ψ = iprop(Ψ false ∗ Ψ true) :=
    bigSep_univ_eq_bigSepL [false, true] (by decide) (by decide) Ψ
  rw [bigSep_own, bigSep_univ_prod, b]
  simp only [bigSep_univ_prod]

omit [FloatOps F] in
/-- Chunk by chunk and device by device, or the other way round. -/
theorem bigSep_chunks_comm (s : Finset (Fin 4)) (Φ : Fin 4 → Fin 4 → sProp 𝕄) :
    (bigSep Finset.univ fun ch : Fin 4 => bigSep s fun j => Φ ch j) = bigSep s fun j => bigSep Finset.univ fun ch => Φ ch j := by
  simp only [bigSep_four, bigSep_sep']

omit [FloatOps F] in
/-- The exchange buffer is its slots. -/
theorem scratch_slots (c : Dev nD) (f : (cc0_scratch0 : Ref sig .tc).ty.Contents (Elt F)) :
    (scratch c f : sProp 𝕄) = bigSep Finset.univ fun ch : Fin 4 => bigSep Finset.univ fun i : Fin 4 => slot c ch i fullShare f := by
  have e := pointsTo_biUnion (Ix := Unit) (Name := ℕ) (U := UU) (Lvl := ℕ) (ℓ := (c : Thread nD τ).loc cc0_scratch0) (q := fullShare) (f := f)
    Finset.univ (fun p : Fin 4 × Fin 4 => slotSet p.1 p.2) (fun p _ p' _ h => slot_disjoint h)
  rw [slot_cover, bigSep_univ_prod] at e
  exact e

omit [FloatOps F] in
/-- The buffer dealt out: the device's own slots stay, the others' go with the signals. -/
theorem deal (c : Dev nD) (f : (cc0_scratch0 : Ref sig .tc).ty.Contents (Elt F)) :
    iprop(scratch c f ∗ bigSep (Finset.univ.erase c) fun j => dutyTok ER (kcell (j, none)) 0 c)
      ⊢ iprop((bigSep Finset.univ fun ch : Fin 4 => iprop(∃ f, slot c ch c fullShare f)) ∗ bigSep (Finset.univ.erase c) fun j => grant (F := F) c j) := by
  have h1 : (bigSep Finset.univ fun ch : Fin 4 => slot c ch c fullShare f : sProp 𝕄)
      ⊢ bigSep Finset.univ fun ch : Fin 4 => iprop(∃ f, slot c ch c fullShare f) :=
    bigSep_mono fun ch _ => exists_intro (Φ := fun f => slot c ch _ fullShare f) f
  have h2 (j : Dev nD) : (bigSep Finset.univ fun ch : Fin 4 => slot c ch j fullShare f : sProp 𝕄) ⊢ barPay j c :=
    bigSep_mono fun ch _ => exists_intro (Φ := fun f => slot c ch _ fullShare f) f
  have h3 : (bigSep (Finset.univ.erase c) fun j : Dev nD => bigSep Finset.univ fun ch : Fin 4 => slot c ch j fullShare f : sProp 𝕄)
      ⊢ bigSep (Finset.univ.erase c) fun j => barPay j c := bigSep_mono fun j _ => h2 j
  rw [scratch_slots, bigSep_congr (s := Finset.univ) (fun (ch : Fin 4) _ => bigSep_univ_at (fun i : Fin 4 => (slot c ch i fullShare f : sProp 𝕄)) (c : Fin 4)),
    bigSep_sep', bigSep_chunks_comm]
  unfold grant
  rw [bigSep_sep']
  iintro ⟨⟨H1, H2⟩, Ht⟩
  isplitl [H1]; · iapply h1; iexact H1
  isplitl [H2]; · iapply h3; iexact H2
  iexact Ht

omit [FloatOps F] in
/-- What the barrier hands over, with the tokens: everything the copies need. -/
theorem kits (c : Dev nD) :
    iprop((bigSep (Finset.univ.erase c) fun j => barPay c j)
        ∗ bigSep Finset.univ fun ch : Fin 4 => bigSep (Finset.univ.erase c) fun j =>
            iprop(dutyTok ER (kcell (c, some (false, ch, j))) 0 j ∗ dutyTok ER (kcell (j, some (true, ch, c))) 0 c))
      ⊢ (bigSep Finset.univ fun ch : Fin 4 => bigSep (Finset.univ.erase c) fun j => kit c ch j : sProp 𝕄) := by
  unfold barPay kit
  rw [← bigSep_chunks_comm, ← bigSep_sep']
  exact Entails.of_eq (bigSep_congr fun ch _ => (bigSep_sep' _ _ _).symm)

omit [FloatOps F] in
/-- The rights to wait, semaphore by semaphore. -/
theorem pending_intro (c : Dev nD) (b : Bool) (ch : Fin 4) :
    iprop((bigSep Finset.univ fun i : Fin 4 => atPos ER (kcell (c, some (b, ch, i))) 0 ∅ 0)
        ∗ bigSep (Finset.univ.erase c) fun i => cred (tallyAt (kcell (c, some (b, ch, i))) () N))
      ⊢ (bigSep Finset.univ fun i : Fin 4 => pending c b ch i : sProp 𝕄) := by
  unfold pending
  rw [bigSep_sep', bigSep_univ_at (fun i : Fin 4 => if i = c then iprop(emp) else (cred (tallyAt (kcell (c, some (b, ch, i))) () N) : sProp 𝕄)) (c : Fin 4),
    if_pos rfl, bigSep_congr (s := Finset.univ.erase (c : Fin 4)) (Ψ := fun i : Fin 4 => (cred (tallyAt (kcell (c, some (b, ch, i))) () N) : sProp 𝕄))
      (fun i hi => if_neg (Finset.ne_of_mem_erase hi))]
  iintro ⟨Ha, Hc⟩
  isplitl [Ha]; · iexact Ha
  isplitr; · iempintro
  iexact Hc

/-- At the end a chunk's row is whole again: what was held, and the parts that came back from the copies. -/
theorem row_back (c : Dev nD) (ch : Fin 4) :
    iprop((bigSep Finset.univ fun i : Fin 4 => held m c ch i) ∗ bigSep Finset.univ fun j : Fin 4 => settled m c false ch j)
      ⊢ iprop((bigSep Finset.univ fun j : Fin 4 => semVal (kcell (c, some (false, ch, j))) 0)
          ∗ bigSep Finset.univ fun i : Fin 4 => slot c ch i fullShare (shared m)) := by
  unfold settled
  rw [bigSep_sep', bigSep_univ_at (fun i => held m c ch i) (c : Fin 4), bigSep_univ_at (fun i : Fin 4 => slot c ch i fullShare (shared m)) (c : Fin 4),
    bigSep_univ_at (fun i : Fin 4 => if i = c then iprop(emp) else payOf m c (some (false, ch, i)) i) (c : Fin 4),
    if_pos rfl, bigSep_congr (s := Finset.univ.erase (c : Fin 4)) (Φ := fun i => held m c ch i) (Ψ := fun i => slot c ch i fullShare (shared m))
      (fun i hi => if_neg (Finset.ne_of_mem_erase hi)),
    bigSep_congr (s := Finset.univ.erase (c : Fin 4)) (Φ := fun i : Fin 4 => if i = c then iprop(emp) else payOf m c (some (false, ch, i)) i)
      (Ψ := fun i => slot c ch c (part i) (shared m)) (fun i hi => if_neg (Finset.ne_of_mem_erase hi)),
    show held m c ch c = slot c ch c (part c) (shared m) from if_pos rfl, slot_kept c ch c (shared m)]
  iintro ⟨⟨Hc, Ho⟩, Hz, -, Hp⟩
  isplitl [Hz]; · iexact Hz
  isplitl [Hc Hp]
  · isplitl [Hc] <;> iassumption
  iexact Ho

/-! ## The pipeline's data -/

/-- One grid point; the block of `x` kept, the result's block written, the exchange's resources as above, everything owed at first and
    nothing at the end. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ m c ∗ (dats m 0 c).owesAt () t0_0.succ ∗ stg c cc0_stg0_0 (xstg m c) ∗ stg c cc0_stg1_0 (outAt m c))

/-! ## The run -/

theorem dev1_eq (c : Dev nD) : (⟨k0_dev1 c, k0_dev1_lt c⟩ : Dev nD) = c + 1 := by revert c; decide
theorem dev2_eq (c : Dev nD) : (⟨k0_dev2 c, k0_dev2_lt c⟩ : Dev nD) = c + 2 := by revert c; decide
theorem dev3_eq (c : Dev nD) : (⟨k0_dev3 c, k0_dev3_lt c⟩ : Dev nD) = c + 3 := by revert c; decide

variable (K : Dev nD × CI → ℕ) (c : Dev nD)

/-- The wait on the barrier semaphore: the three others have signalled, and their slots have come with the signals. -/
theorem wp_barrier (W : Waits sig Unit) {α : Type} {Q : α → sProp 𝕄} {k : PUnit → Step F α} :
    iprop(records m K ∗ levAts L lv ∗ atPos ER (kcell (c, none)) 0 ∅ 0 ∗ cred (tallyAt (kcell (c, none)) () 3)
        ∗ owes (c : Thread nD τ) (owedOf (due0 c)) W)
      ⊢ iprop((((∃ W, owes (c : Thread nD τ) (owedOf (due0 c)) W) ∗ semVal (kcell (c, none)) 0
            ∗ bigSep (Finset.univ.erase c) fun j => barPay (F := F) c j) -∗ runs c (k ⟨⟩) Q)
          -∗ runs c (.op (.semWait barS (3#32 : BitVec 32).toNat) k) Q) := by
  have hN : 0 + (3#32 : BitVec 32).toNat = (sched (F := F) m).expect ((c : Thread nD τ), SemLoc.reg barS) 0 := by
    have e := expect_eq m c none
    have e' : (dutiesOf c none).card * amt none = 3 := by clear e; revert c; decide
    exact (e.trans e').symm
  have hr : bigSep ((sched (F := F) m).duties ((c : Thread nD τ), SemLoc.reg barS) 0 \ ∅)
      (fun d => (sched (F := F) m).payload ((c : Thread nD τ), SemLoc.reg barS) 0 d)
      ⊢ bigSep (Finset.univ.erase c) fun j => barPay (F := F) c j := Entails.of_eq (rest_eq m c none)
  have hm : (levAts L lv : sProp 𝕄) ⊢ MayWait (c : Thread nD τ) (SemLoc.reg barS) () (owedOf (due0 c)) := mayWait_bar c
  iintro ⟨#HR, #Hlev, Hat, Hc, Ho⟩ Hk
  iapply (Rounds.wp_wait_rest_token 𝒱₀ ER (sched m) (c : Thread nD τ) none (κ := K (c, none)) (sm := .reg barS) (k' := (3#32 : BitVec 32).toNat)
    (wpE_semWait_eq 𝒱₀ (c : Thread nD τ) none Set.univ) (Set.mem_univ _) () (O := owedOf (due0 c)) (W := W) (R := 0) (m := 0) (T := ∅) hN)
    $$ [Hat Hc Ho]
  · isplitr; · iapply (records_inv m K (c, none)); iexact HR
    isplitl [Hc]; · iexact Hc
    isplitl [Ho]; · iexact Ho
    isplitr; · iapply hm; iexact Hlev
    iexact Hat
  iintro ⟨Ho, Hat, -, Hp⟩
  ihave Hp := hr $$ Hp
  imod (Rounds.cell_close ER (sched m) (Set.mem_univ (K (c, none))) (fun h => h) (R := 0 + 1) (duties_later m _)) $$ [Hat] with Hz
  · isplitr; · iapply (records_inv m K (c, none)); iexact HR
    iexact Hat
  iapply Hk
  isplitl [Ho]; · iexists _; iexact Ho
  isplitl [Hz]; · iexact Hz
  iexact Hp

omit [FloatOps F] in
/-- The rights to wait for the copies in, or out, chunk by chunk. -/
theorem pendings (b : Bool) :
    iprop((bigSep Finset.univ fun ch : Fin 4 => bigSep Finset.univ fun i : Fin 4 => atPos ER (kcell (c, some (b, ch, i))) 0 ∅ 0)
        ∗ bigSep Finset.univ fun ch : Fin 4 => bigSep (Finset.univ.erase c) fun i => cred (tallyAt (kcell (c, some (b, ch, i))) () N))
      ⊢ (bigSep Finset.univ fun ch : Fin 4 => bigSep Finset.univ fun i : Fin 4 => pending c b ch i : sProp 𝕄) := by
  rw [← bigSep_sep']
  exact bigSep_mono fun ch _ => pending_intro c b ch

/-- The rows of a chunk, read. -/
theorem wp_loadX (ch : Fin 4) {hl : (xM : Memref sig .tc .vmem S2048x2048 .bf16).view.LoadsAt (chunkR ch).toLoadRect} {α : Type} {Q : α → sProp 𝕄}
    {k : Vec F S512x2048 .bf16 → Step F α} :
    (((c : Thread nD τ).loc cc0_stg0_0) ↦{fullShare} xstg m c)
      ⊢ iprop(((((c : Thread nD τ).loc cc0_stg0_0) ↦{fullShare} xstg m c) -∗ runs c (k (xch m c ch)) Q)
          -∗ runs c (.op (.load xM (chunkR ch).toLoadRect hl) k) Q) :=
  wp_load 𝒱₀ (c : Thread nD τ) none Set.univ (m := xM) (Finset.subset_univ _)

/-- From the barrier on: the four chunks shared, finished and drained. -/
theorem wp_chunks (Q : PUnit → sProp 𝕄) (g : (cc0_stg1_0 : Ref sig .tc).ty.Contents (Elt F)) (W : Waits sig Unit) :
    iprop(records m K
        ∗ (bigSep Finset.univ fun ch : Fin 4 => iprop(∃ f, slot c ch c fullShare f))
        ∗ (bigSep Finset.univ fun ch : Fin 4 => bigSep (Finset.univ.erase c) fun j => kit c ch j)
        ∗ (bigSep Finset.univ fun ch : Fin 4 => bigSep Finset.univ fun i : Fin 4 => atPos ER (kcell (c, some (false, ch, i))) 0 ∅ 0)
        ∗ (bigSep Finset.univ fun ch : Fin 4 => bigSep Finset.univ fun i : Fin 4 => pending c true ch i)
        ∗ owes (c : Thread nD τ) (owedOf (due0 c)) W
        ∗ (((c : Thread nD τ).loc cc0_stg0_0) ↦{fullShare} xstg m c)
        ∗ (((c : Thread nD τ).loc cc0_stg1_0) ↦{fullShare} g))
      ⊢ iprop(((clear c ∗ scratch c (shared m)
            ∗ (bigSep Finset.univ fun ch : Fin 4 => bigSep Finset.univ fun i : Fin 4 => semVal (kcell (c, some (false, ch, i))) 0)
            ∗ (bigSep Finset.univ fun ch : Fin 4 => bigSep Finset.univ fun i : Fin 4 => semVal (kcell (c, some (true, ch, i))) 0)
            ∗ (((c : Thread nD τ).loc cc0_stg0_0) ↦{fullShare} xstg m c)
            ∗ (((c : Thread nD τ).loc cc0_stg1_0) ↦{fullShare} outAt m c)) -∗ Q ⟨⟩)
          -∗ runs c (shareAll 0 c (k0_pay20 (xch m c 0)) <| do
              let x1 ← loadX 1
              shareAll 1 c (k0_pay20 x1) <| do
                let x2 ← loadX 2
                shareAll 2 c (k0_pay20 x2) <| do
                  let x3 ← loadX 3
                  shareAll 3 c (k0_pay20 x3) <|
                    finish (place c) 0 (xch m c 0) <| finish (place c) 1 x1 <| finish (place c) 2 x2 <| finish (place c) 3 x3 <|
                      drain (place c) 0 <| drain (place c) 1 <| drain (place c) 2 <| drain (place c) 3 <| pure ⟨⟩) Q) := by
  have hsent (ch : Fin 4) : iprop((bigSep Finset.univ fun i : Fin 4 => atPos ER (kcell (c, some (false, ch, i))) 0 ∅ 0)
        ∗ bigSep (Finset.univ.erase c) fun j => sent c ch j)
      ⊢ (bigSep Finset.univ fun i : Fin 4 => pending c false ch i : sProp 𝕄) := pending_intro c false ch
  have hclear : (owes (c : Thread nD τ) (owedOf ([] : List (Dev nD × CI))) W : sProp 𝕄) ⊢ clear c := by
    rw [owedOf_nil]; exact exists_intro (Φ := fun W => owes (c : Thread nD τ) 0 W) W
  have hout : (((c : Thread nD τ).loc cc0_stg1_0) ↦{fullShare} g : sProp 𝕄) ⊢ outUpTo m c (0 : Fin 4).val := by
    unfold outUpTo
    iintro H
    iexists g
    isplitr; · ipureintro; exact fun x hx => absurd hx (Nat.not_lt_zero _)
    iexact H
  rw [scratch_slots]
  simp only [bigSep_four (fun ch : Fin 4 => (bigSep Finset.univ fun i : Fin 4 => _ : sProp 𝕄)), bigSep_four (fun ch : Fin 4 => (bigSep (Finset.univ.erase c) fun i => _ : sProp 𝕄)),
    bigSep_four (fun ch : Fin 4 => iprop(∃ f, slot c ch c fullShare f)), Prog.lift, Prog.bind_op, Prog.bind_ret, Prog.pure_eq_ret]
  iintro ⟨#HR, ⟨Hs0, Hs1, Hs2, Hs3⟩, ⟨Hk0, Hk1, Hk2, Hk3⟩, ⟨Ha0, Ha1, Ha2, Ha3⟩, ⟨Hp0, Hp1, Hp2, Hp3⟩, Ho, Hx, Hout⟩ Hk
  iapply (wp_share m K c 0 (due1 c) W) $$ [Hs0 Hk0 Ho]
  · isplitr; · iexact HR
    isplitl [Hs0]; · iexact Hs0
    isplitl [Hk0]; · iexact Hk0
    iexact Ho
  iintro ⟨Hs0, Hk0, Ho⟩
  ihave Hq0 := (hsent 0) $$ [Ha0 Hk0]
  · isplitl [Ha0] <;> iassumption
  iapply (wp_loadX m c 1) $$ Hx; iintro Hx
  iapply (wp_share m K c 1 (due2 c) W) $$ [Hs1 Hk1 Ho]
  · isplitr; · iexact HR
    isplitl [Hs1]; · iexact Hs1
    isplitl [Hk1]; · iexact Hk1
    iexact Ho
  iintro ⟨Hs1, Hk1, Ho⟩
  ihave Hq1 := (hsent 1) $$ [Ha1 Hk1]
  · isplitl [Ha1] <;> iassumption
  iapply (wp_loadX m c 2) $$ Hx; iintro Hx
  iapply (wp_share m K c 2 (due3 c) W) $$ [Hs2 Hk2 Ho]
  · isplitr; · iexact HR
    isplitl [Hs2]; · iexact Hs2
    isplitl [Hk2]; · iexact Hk2
    iexact Ho
  iintro ⟨Hs2, Hk2, Ho⟩
  ihave Hq2 := (hsent 2) $$ [Ha2 Hk2]
  · isplitl [Ha2] <;> iassumption
  iapply (wp_loadX m c 3) $$ Hx; iintro Hx
  iapply (wp_share m K c 3 [] W) $$ [Hs3 Hk3 Ho]
  · isplitr; · iexact HR
    isplitl [Hs3]; · iexact Hs3
    isplitl [Hk3]; · iexact Hk3
    iexact Ho
  iintro ⟨Hs3, Hk3, Ho⟩
  ihave Hq3 := (hsent 3) $$ [Ha3 Hk3]
  · isplitl [Ha3] <;> iassumption
  ihave Ho := hclear $$ Ho
  ihave Hout := hout $$ Hout
  iapply (wp_finish m K c 0) $$ [Ho Hs0 Hp0 Hout]
  · isplitr; · iexact HR
    isplitl [Ho]; · iexact Ho
    isplitl [Hs0]; · iexact Hs0
    isplitl [Hp0]; · iexact Hp0
    iexact Hout
  iintro ⟨Ho, Hz0, Hh0, Hout⟩
  iapply (wp_finish m K c 1) $$ [Ho Hs1 Hp1 Hout]
  · isplitr; · iexact HR
    isplitl [Ho]; · iexact Ho
    isplitl [Hs1]; · iexact Hs1
    isplitl [Hp1]; · iexact Hp1
    iexact Hout
  iintro ⟨Ho, Hz1, Hh1, Hout⟩
  iapply (wp_finish m K c 2) $$ [Ho Hs2 Hp2 Hout]
  · isplitr; · iexact HR
    isplitl [Ho]; · iexact Ho
    isplitl [Hs2]; · iexact Hs2
    isplitl [Hp2]; · iexact Hp2
    iexact Hout
  iintro ⟨Ho, Hz2, Hh2, Hout⟩
  iapply (wp_finish m K c 3) $$ [Ho Hs3 Hp3 Hout]
  · isplitr; · iexact HR
    isplitl [Ho]; · iexact Ho
    isplitl [Hs3]; · iexact Hs3
    isplitl [Hp3]; · iexact Hp3
    iexact Hout
  iintro ⟨Ho, Hz3, Hh3, Hout⟩
  iapply (wp_drain m K c 0) $$ [Ho Hq0]
  · isplitr; · iexact HR
    isplitl [Ho] <;> iassumption
  iintro ⟨Ho, Hq0⟩
  ihave Hh0 := (row_back m c 0) $$ [Hh0 Hq0]
  · isplitl [Hh0] <;> iassumption
  icases Hh0 with ⟨Hy0, Hh0⟩
  iapply (wp_drain m K c 1) $$ [Ho Hq1]
  · isplitr; · iexact HR
    isplitl [Ho] <;> iassumption
  iintro ⟨Ho, Hq1⟩
  ihave Hh1 := (row_back m c 1) $$ [Hh1 Hq1]
  · isplitl [Hh1] <;> iassumption
  icases Hh1 with ⟨Hy1, Hh1⟩
  iapply (wp_drain m K c 2) $$ [Ho Hq2]
  · isplitr; · iexact HR
    isplitl [Ho] <;> iassumption
  iintro ⟨Ho, Hq2⟩
  ihave Hh2 := (row_back m c 2) $$ [Hh2 Hq2]
  · isplitl [Hh2] <;> iassumption
  icases Hh2 with ⟨Hy2, Hh2⟩
  iapply (wp_drain m K c 3) $$ [Ho Hq3]
  · isplitr; · iexact HR
    isplitl [Ho] <;> iassumption
  iintro ⟨Ho, Hq3⟩
  ihave Hh3 := (row_back m c 3) $$ [Hh3 Hq3]
  · isplitl [Hh3] <;> iassumption
  icases Hh3 with ⟨Hy3, Hh3⟩
  unfold outUpTo
  icases Hout with ⟨%f, %hf, Hout⟩
  obtain rfl : f = outAt m c := funext fun x => hf x (x 0).isLt
  unfold runs
  rw [wp_ret]; imodintro
  iapply Hk
  isplitl [Ho]; · iexact Ho
  isplitl [Hh0 Hh1 Hh2 Hh3]
  · isplitl [Hh0]; · iexact Hh0
    isplitl [Hh1]; · iexact Hh1
    isplitl [Hh2] <;> iassumption
  isplitl [Hy0 Hy1 Hy2 Hy3]
  · isplitl [Hy0]; · iexact Hy0
    isplitl [Hy1]; · iexact Hy1
    isplitl [Hy2] <;> iassumption
  isplitl [Hz0 Hz1 Hz2 Hz3]
  · isplitl [Hz0]; · iexact Hz0
    isplitl [Hz1]; · iexact Hz1
    isplitl [Hz2] <;> iassumption
  isplitl [Hx] <;> iassumption

set_option maxHeartbeats 800000 in
/-- The body, run from its start. -/
theorem sound_body (Q : PUnit → sProp 𝕄) :
    iprop(bodyPre m c ∗ (bodyPost m c -∗ Q ⟨⟩))
      ⊢ runs c (cc0_body (Memref.whole cc0_stg0_0) (Memref.isWhole_whole _) (Memref.whole cc0_stg1_0) (Memref.isWhole_whole _)
            (Memref.whole cc0_scratch0) (Memref.isWhole_whole _) cc0_scratch1 cc0_scratch2) Q := by
  obtain ⟨n1, n2, n3⟩ := ne_add c
  rw [body_eq]
  unfold program
  simp only [semSignalWord, semWaitWord, Prog.lift, Prog.bind_op, Prog.bind_ret, Prog.pure_eq_ret, wp_deviceId]
  unfold bodyPre bodyPost Φ₀ Φ₁ start linear payToks creds Dat.owesAt Pipeline.owesWithin
  rw [bigSep_cells, bigSep_cells (fun k : CI => semVal (kcell (c, k)) 0), show (dats m 0 c).owed t0_0.castSucc = owedOf (dues c) from rfl,
    show (dats m 0 c).owed t0_0.succ = 0 from rfl]
  iintro ⟨⟨⟨⟨⟨%K, #HR, ⟨Hat, Has, Har⟩, Htb, Htk⟩, ⟨Hcb, Hcr⟩, #Hlev⟩, ⟨%f0, Hscr⟩⟩, Ho, ⟨%d0, %g0, %hg0, Hx⟩, ⟨%d1, %g1, %hg1, Hout⟩⟩, Hk⟩
  have hx : g0 = xstg m c := by rw [hg0]; unfold Dat.before; rw [if_pos (fetch0_0 t0_0)]; rfl
  subst hx
  icases Ho with ⟨%W, %hW, Ho⟩
  ihave Hd := (deal c f0) $$ [Hscr Htb]
  · isplitl [Hscr] <;> iassumption
  icases Hd with ⟨Hs, Hg⟩
  ihave Hg := (Entails.of_eq (bigSep_others c (fun j => grant (F := F) c j))) $$ Hg
  icases Hg with ⟨Hg1, Hg2, Hg3⟩
  iapply (wp_signal m K c _ (c + 1) (dev1_eq c) n1 ((c + 2, none) :: (c + 3, none) :: due0 c) W) $$ [Hg1 Ho]
  · isplitr; · iexact HR
    isplitl [Hg1]; · iexact Hg1
    iexact Ho
  iintro Ho
  iapply (wp_signal m K c _ (c + 2) (dev2_eq c) n2 ((c + 3, none) :: due0 c) W) $$ [Hg2 Ho]
  · isplitr; · iexact HR
    isplitl [Hg2]; · iexact Hg2
    iexact Ho
  iintro Ho
  iapply (wp_signal m K c _ (c + 3) (dev3_eq c) n3 (due0 c) W) $$ [Hg3 Ho]
  · isplitr; · iexact HR
    isplitl [Hg3]; · iexact Hg3
    iexact Ho
  iintro Ho
  iapply (wp_loadX m c 0) $$ Hx; iintro Hx
  iapply (wp_barrier m K c W) $$ [Hat Hcb Ho]
  · isplitr; · iexact HR
    isplitr; · iexact Hlev
    isplitl [Hat]; · iexact Hat
    isplitl [Hcb] <;> iassumption
  iintro ⟨⟨%W', Ho⟩, Hzb, Hp⟩
  ihave Hk' := (kits c) $$ [Hp Htk]
  · isplitl [Hp] <;> iassumption
  ihave Har := (pendings c true) $$ [Har Hcr]
  · isplitl [Har] <;> iassumption
  iapply (wp_chunks m K c Q g1 W') $$ [Hs Hk' Has Har Ho Hx Hout]
  · isplitr; · iexact HR
    isplitl [Hs]; · iexact Hs
    isplitl [Hk']; · iexact Hk'
    isplitl [Has]; · iexact Has
    isplitl [Har]; · iexact Har
    isplitl [Ho]; · iexact Ho
    isplitl [Hx] <;> iassumption
  iintro ⟨Ho, Hscr, Hz0, Hz1, Hx, Hout⟩
  unfold clear
  icases Ho with ⟨%W'', Ho⟩
  iapply Hk
  isplitl [Hscr Hzb Hz0 Hz1]
  · isplitl [Hscr]; · iexact Hscr
    isplitl [Hzb]; · iexact Hzb
    isplitl [Hz0] <;> iassumption
  isplitl [Ho]
  · iexists W''
    isplitr; · ipureintro; exact fun _ _ => Or.inl trivial
    iexact Ho
  isplitl [Hx]
  · iexists _; isplitr; · (ipureintro; rfl)
    iexact Hx
  iexists _; isplitr; · (ipureintro; rfl)
  iexact Hout

set_option maxRecDepth 4000 in
/-- What the library asks of the body. -/
theorem body_obligation (c : Dev nD) : BodyObligation (dats (F := F) m 0 c) (defs₀ (F := F)) 𝒱₀ () Set.univ := fun t => by
  rw [fin_N0 t, bigSep_W0, bigSep_W0]
  simp only [owns_whole_eq]
  show bodyPre m c ⊢ runs c (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  iintro H
  iapply (sound_body m c fun _ => bodyPost m c)
  isplitl [H]; · iexact H
  iintro H; iexact H

end Cert.Softmax

end
-- ==== Proof.Launch.lean ====
/-
The launch: the invariants and tokens allotted, the rights to wait dealt out, and the run of the four devices from any memory.
-/
module

public import proofs.«01_k».proof.Proof.Body
public import Idealize.ShloMosaic.Lib.Pipeline.Kit
public import Idealize.ShloMosaic.Lib.Pipeline.CollectiveSegs

@[expose] public section

noncomputable section

namespace Cert.Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

/-- All semaphores of the exchange, -/
def exchCells : Finset (GSem nD τ sig) := Finset.univ.map ⟨kcell, kcell_injective⟩

/-- and their duty tokens. -/
abbrev tokOf (x : Dev nD × CI × Dev nD) : GSem nD τ sig × ℕ × Dev nD := (kcell (x.1, x.2.1), 0, x.2.2)
theorem tokOf_injective : Function.Injective tokOf := by
  rintro ⟨c, k, d⟩ ⟨c', k', d'⟩ h
  have h1 := kcell_injective (congrArg Prod.fst h)
  have h2 : d = d' := congrArg (fun x => x.2.2) h
  obtain ⟨rfl, rfl⟩ : c = c' ∧ k = k' := Prod.mk.inj h1
  rw [h2]
def exchToks : Finset (GSem nD τ sig × ℕ × Dev nD) := Finset.univ.map ⟨tokOf, tokOf_injective⟩

def u₀ : UU := (initOf (Pipeline.cells cfgs cellOf_inj) (Pipeline.launchToks cfgs cellOf_inj), initOf exchCells exchToks)

/-- The tokens of device `c`'s semaphores. -/
def toks (c : Dev nD) : sProp 𝕄 :=
  bigSep Finset.univ fun k : CI => bigSep Finset.univ fun d : Dev nD => dutyTok ER (kcell (c, k)) 0 d

/-- What the launch element holds for device `c`. -/
def G (c : Dev nD) : sProp 𝕄 :=
  iprop((bigSep Finset.univ fun k : CI => roundState ER (sched m) (kcell (c, k)) 0)
    ∗ (bigSep Finset.univ fun k : CI => iprop(atPos ER (kcell (c, k)) 0 ∅ 0 ∗ reached ER (kcell (c, k)) 0)) ∗ toks c)

/-- What the devices together make of it. -/
def G' (c : Dev nD) : sProp 𝕄 := iprop(∃ K, records m K ∗ linear c)

theorem fund_exch : BI.own (ER (initOf exchCells exchToks)) ⊢ (|==> bigSep Finset.univ (G m) : sProp 𝕄) := by
  have hX (Φ : GSem nD τ sig → sProp 𝕄) : bigSep exchCells Φ = bigSep Finset.univ fun c : Dev nD => bigSep Finset.univ fun k : CI => Φ (kcell (c, k)) := by
    unfold exchCells; rw [bigSep_map, bigSep_univ_prod]; rfl
  have hT : bigSep exchToks (fun x => (dutyTok ER x.1 x.2.1 x.2.2 : sProp 𝕄)) = bigSep Finset.univ fun c : Dev nD => toks c := by
    unfold exchToks toks; rw [bigSep_map, bigSep_univ_prod]
    exact bigSep_congr fun c _ => bigSep_univ_prod _
  iintro HX
  imod (Rounds.fund ER (sched m) exchCells exchToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores at zero -/

theorem ownSemFacts : Pipeline.OwnSemFacts cfg0.spec osem := by decide

omit [FloatOps F] in
/-- The semaphores of the exchange are the kernel's own and the launch's one other, the barrier's. -/
theorem sems0_eq (c : Dev nD) : (bigSep Finset.univ fun k : CI => semVal (kcell (c, k)) 0 : sProp 𝕄)
    = iprop(unscopedSems0 c ∗ Pipeline.ownSems0 (Ix := Unit) (Name := ℕ) (U := UU) (Lvl := ℕ) (Val := Elt F) (τ := τ) osem c) := by
  have hu : (unscopedSems0 c : sProp 𝕄) = semVal (kcell (c, none)) 0 := by
    unfold unscopedSems0; rw [bigSep_eq_bigSepL_of_eq [SemLoc.reg barS] (by decide) (by decide)]; rfl
  rw [bigSep_own, hu]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  have hI : iprop((bigSep Finset.univ fun k : CI => semVal (kcell (c, k)) 0) ∗ bigSep Finset.univ fun k : CI => roundState ER (sched m) (kcell (c, k)) 0)
      ⊢ (|={Set.univ}=> bigSep Finset.univ fun k => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  unfold G
  iintro ⟨Hos, Hus, Hst, Hat, Htok⟩
  ihave Hv := (Entails.of_eq (sems0_eq (F := F) c).symm) $$ [Hos Hus]
  · isplitl [Hus] <;> iassumption
  imod hI $$ [Hv Hst] with Hinv
  · isplitl [Hv] <;> iassumption
  imodintro
  isplitl [Hinv]; · iexact Hinv
  isplitl [Hat] <;> iassumption

/-! ## The tokens dealt -/

omit [FloatOps F] in
/-- Every token goes to the device that pays the duty. -/
theorem toks_dealt : (bigSep Finset.univ fun c : Dev nD => (toks c : sProp 𝕄)) ⊢ bigSep Finset.univ fun c : Dev nD => payToks c := by
  have hbar : (bigSep Finset.univ fun c : Dev nD => bigSep Finset.univ fun d : Dev nD => (dutyTok ER (kcell (c, none)) 0 d : sProp 𝕄))
      ⊢ bigSep Finset.univ fun c : Dev nD => bigSep (Finset.univ.erase c) fun j => dutyTok ER (kcell (j, none)) 0 c := by
    rw [← bigSep_erase_comm]
    exact bigSep_mono fun c _ => bigSep_subset (Finset.erase_subset _ _)
  have hrow (b : Bool) (c : Dev nD) (ch : Fin 4) :
      (bigSep Finset.univ fun i : Fin 4 => bigSep Finset.univ fun d : Dev nD => (dutyTok ER (kcell (c, some (b, ch, i))) 0 d : sProp 𝕄))
        ⊢ bigSep (Finset.univ.erase c) fun i => dutyTok ER (kcell (c, some (b, ch, i))) 0 i :=
    (bigSep_subset (Finset.erase_subset _ _)).trans (bigSep_mono fun i _ => bigSep_elim (Finset.mem_univ i))
  have hsend : (bigSep Finset.univ fun c : Dev nD => bigSep Finset.univ fun ch : Fin 4 => bigSep Finset.univ fun i : Fin 4 =>
        bigSep Finset.univ fun d : Dev nD => (dutyTok ER (kcell (c, some (false, ch, i))) 0 d : sProp 𝕄))
      ⊢ bigSep Finset.univ fun c : Dev nD => bigSep Finset.univ fun ch : Fin 4 => bigSep (Finset.univ.erase c) fun j =>
          dutyTok ER (kcell (c, some (false, ch, j))) 0 j := bigSep_mono fun c _ => bigSep_mono fun ch _ => hrow false c ch
  have hrecv : (bigSep Finset.univ fun c : Dev nD => bigSep Finset.univ fun ch : Fin 4 => bigSep Finset.univ fun i : Fin 4 =>
        bigSep Finset.univ fun d : Dev nD => (dutyTok ER (kcell (c, some (true, ch, i))) 0 d : sProp 𝕄))
      ⊢ bigSep Finset.univ fun c : Dev nD => bigSep Finset.univ fun ch : Fin 4 => bigSep (Finset.univ.erase c) fun j =>
          dutyTok ER (kcell (j, some (true, ch, c))) 0 c := by
    have e : (bigSep Finset.univ fun c : Dev nD => bigSep Finset.univ fun ch : Fin 4 => bigSep (Finset.univ.erase c) fun i =>
          (dutyTok ER (kcell (c, some (true, ch, i))) 0 i : sProp 𝕄))
        = bigSep Finset.univ fun c : Dev nD => bigSep Finset.univ fun ch : Fin 4 => bigSep (Finset.univ.erase c) fun j =>
          dutyTok ER (kcell (j, some (true, ch, c))) 0 c := by
      refine (bigSep_chunks_comm Finset.univ fun ch c => bigSep (Finset.univ.erase c) fun i => (dutyTok ER (kcell (c, some (true, ch, i))) 0 i : sProp 𝕄)).symm.trans
        (Eq.trans ?_ (bigSep_chunks_comm Finset.univ fun ch c => bigSep (Finset.univ.erase c) fun j => (dutyTok ER (kcell (j, some (true, ch, c))) 0 c : sProp 𝕄)))
      exact bigSep_congr fun ch _ => bigSep_erase_comm fun c i : Fin 4 => dutyTok ER (kcell (c, some (true, ch, i))) 0 i
    exact e ▸ bigSep_mono fun c _ => bigSep_mono fun ch _ => hrow true c ch
  unfold toks payToks
  simp only [bigSep_cells, bigSep_sep']
  iintro ⟨Hb, Hs, Hr⟩
  isplitl [Hb]; · iapply hbar; iexact Hb
  isplitl [Hs]; · iapply hsend; iexact Hs
  iapply hrecv; iexact Hr

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  have hG (K : Dev nD × CI → ℕ) : iprop(records m K ∗ bigSep Finset.univ fun c : Dev nD => linear c) ⊢ bigSep Finset.univ (G' m) :=
    (sep_mono_left (BI.bigSep_of_persistent (Finset.univ : Finset (Dev nD)) (records m K))).trans (by
      rw [← bigSep_sep']
      exact bigSep_mono fun c _ => exists_intro (Φ := fun K => iprop(records m K ∗ linear c)) K)
  rw [bigSep_sep', bigSep_sep', ← bigSep_univ_prod (fun ck : Dev nD × CI => iprop(∃ κ : ℕ, cellInv ER (sched m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched m) κ (kcell ck) : sProp 𝕄))) $$ HI
  icases HK with ⟨%K, #HI⟩
  ihave Htk := (toks_dealt (F := F)) $$ Htok
  iapply (hG K)
  isplitr
  · unfold records; isplitl; · iexact HI
    iexact HR
  · unfold linear; rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The rights to wait -/

/-- Everything owed at a semaphore, by all devices. -/
theorem launch_cell (q : Dev nD × CI) (n : ℕ) (h : (∑ d : Dev nD, (dues d).count q) * amt q.2 = n) :
    tallyOn (kcell q) (launchCredit (Pipeline.owing O₀) 0 (kcell q)) = (tallyAt (kcell q) () n : CellTallies nD τ sig Unit) := by
  unfold tallyAt; refine congrArg _ (Finsupp.ext fun u => ?_); cases u
  rw [Pipeline.launchCredit_owing, Finsupp.single_eq_same, ← h, Finset.sum_mul]
  exact Finset.sum_congr rfl fun d _ => owedOf_apply (dues d) q

theorem count_bar : ∀ c : Dev nD, (∑ d : Dev nD, (dues d).count (c, none)) = 3 := by decide
theorem count_recv : ∀ (c : Dev nD) (ch i : Fin 4), i ≠ c → (∑ d : Dev nD, (dues d).count (c, some (true, ch, i))) = 1 := by decide +kernel

omit [FloatOps F] in
theorem creds_intro (c : Dev nD) : (Pipeline.launchCred O₀ c : sProp 𝕄) ⊢ creds c := by
  have hmap : (Pipeline.launchCred O₀ c : sProp 𝕄)
      ⊢ bigSep Finset.univ fun k : CI => cred (tallyOn (kcell (c, k)) (launchCredit (Pipeline.owing O₀) 0 (kcell (c, k)))) := by
    unfold Pipeline.launchCred
    refine (bigSep_subset (Finset.subset_univ (Finset.univ.map ⟨csem, csem_injective⟩))).trans ?_
    rw [bigSep_map]; exact Entails.refl _
  have hbar := launch_cell (c, none) 3 (by rw [count_bar]; rfl)
  have hrecv (ch : Fin 4) : (bigSep Finset.univ fun i : Fin 4 =>
        (cred (tallyOn (kcell (c, some (true, ch, i))) (launchCredit (Pipeline.owing O₀) 0 (kcell (c, some (true, ch, i))))) : sProp 𝕄))
      ⊢ bigSep (Finset.univ.erase c) fun i => cred (tallyAt (kcell (c, some (true, ch, i))) () N) :=
    (bigSep_subset (Finset.erase_subset _ _)).trans (Entails.of_eq (bigSep_congr fun i hi => by
      rw [launch_cell (c, some (true, ch, i)) N (by rw [count_recv c ch i (Finset.ne_of_mem_erase hi), Nat.one_mul]; rfl)]))
  refine hmap.trans ?_
  rw [bigSep_cells, hbar]
  unfold creds
  exact sep_mono_right ((by iintro ⟨-, H⟩; iexact H : _ ⊢ _).trans (bigSep_mono fun ch _ => hrecv ch))

/-! ## The run -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq]
  unfold Φ₁ scratch
  rw [sems0_eq]
  iintro ⟨Hr, Hu, Ho⟩
  isplitl [Hu]; · iexact Hu
  isplitl [Ho]; · iexact Ho
  iexists (shared m); iexact Hr

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_stage c _ (by fin_cases w <;> fin_cases s <;> decide)
    · show _ ⊢ MayWait _ _ () 0
      rw [MayWait_zero]; iintro -; iempintro

/-- What the array of a window holds in the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Whatever the memory holds, with all counters at zero: every weakly fair run of the four devices ends, with the arrays at the contents
    computed above and all counters at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_exch m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `x` is as it was. -/
theorem finalA_x (c : Dev nD) : finalA m c (0 : Fin 2) = m ((c : Thread nD τ).loc main_arg0) := (dats (F := F) m 0 c).arrAt_in (0 : Fin 2) rfl _

end Cert.Softmax

end
-- ==== Proof.Frames.lean ====
/-
The runs read at the arrays: what the kernel leaves in its result and its argument, and the frames of the three programs.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The result array is one block: reading the block reads the array. -/
theorem read_result (f : main_v1.ty.Contents (Elt F)) : (win0_1.blk (0 : Fin 1)).view.read (Elt F) f = f :=
  Memref.read_access_unit_zero (Elt F) main_v1 (funext fun a => by fin_cases a <;> decide) (fun a => by fin_cases a <;> decide) f

/-- So is the argument array. -/
theorem read_arg (f : main_arg0.ty.Contents (Elt F)) : (win0_0.blk (0 : Fin 1)).view.read (Elt F) f = f :=
  Memref.read_access_unit_zero (Elt F) main_arg0 (funext fun a => by fin_cases a <;> decide) (fun a => by fin_cases a <;> decide) f

variable (m : (ℓ : Loc nD τ sig) → Buf (Elt F) ℓ) (ρ : Dev nD → PrngReg)

/-- In the end the result array holds what the body left in its one block. -/
theorem result_end (c : Dev nD) : finalA m c (1 : Fin 2) = outAt m c := by
  have last := (dats m 0 c).arrAt_succ (1 : Fin 2) (0 : Fin 1)
  rw [if_pos (flush0_1 (0 : Fin 1))] at last
  exact (read_result _).symm.trans ((congrArg ((win0_1.blk (0 : Fin 1)).view.read (Elt F)) last).trans (View.read_write_univ _ _))

/-- The kernel's run: the result on every device, the argument unchanged, all counters at zero. -/
theorem run_kernel : θ_run defs (onTc (τ := τ) (main (F := F))) ⟨m, fun _ => 0, ρ⟩ (fun r =>
    (∀ c : Dev nD, r.2.mem ((c : Thread nD τ).loc main_v1) = outAt m c ∧ r.2.mem ((c : Thread nD τ).loc main_arg0) = m ((c : Thread nD τ).loc main_arg0))
      ∧ r.2.sem = fun _ => 0) :=
  (θ_run defs _ _).mono (fun _ h => ⟨fun c => ⟨(h.1 c (1 : Fin 2)).trans (result_end m c), (h.1 c (0 : Fin 2)).trans (finalA_x m c)⟩, h.2⟩) (run_main m ρ)

/-- Of it, what a frame says. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)) ∧ r.2.sem = fun _ => 0) :=
  (θ_run defs _ _).mono (fun _ h => ⟨fun c => (h.1 c).2, h.2⟩) (run_kernel m ρ)

/-- The kernel as printed has the same text as the one read over the extended reals. -/
theorem bodies_eq : Cert.Kernel.defs₀ (F := F) = defs₀ (F := F) :=
  congrArg Defs.onTc (funext fun ℓ => funext fun x => by obtain rfl : ℓ = 0 := Subsingleton.elim _ _; rfl)
theorem defs_eq : Cert.Kernel.defs (F := F) = defs (F := F) := congrArg (Pipeline.defs pcfgs) bodies_eq

theorem frame_kernel : Cert.quiescent_Kernel := fun m ρ _ => by
  have h := run_frame (F := Bits) m ρ
  rw [← defs_eq] at h
  exact h

theorem frame_ideal : Cert.quiescent_KernelIdeal := fun m ρ _ => run_frame (F := Ideal) m ρ

theorem frame_ideal_finite [Cert.Pre_finite_KernelIdeal.Facts] : Cert.quiescent_KernelIdeal_pre_finite_KernelIdeal := fun m ρ _ =>
  frame_ideal m ρ trivial

theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

theorem frame_reference_finite [Cert.Pre_finite_ReferenceIdeal.Facts] : Cert.quiescent_ReferenceIdeal_pre_finite_ReferenceIdeal := fun m ρ _ =>
  frame_reference m ρ trivial

end Cert.Softmax

end
-- ==== Proof.Math.lean ====
/-
The softmax of a row that lies in pieces, over the extended reals.

`soft x` is the softmax of a row `x` in one go. `joint x` is the softmax of a row cut into pieces, the way the devices compute it together:
every piece subtracts its own maximum and sums its own exponentials, and the pieces' maxima and sums then give each piece the one factor that
its exponentials still lack. Where every element of the row is a real number, the two are equal.
-/
module

public import Idealize.ShloMosaic.PureOps.Ideal
public import Mathlib.Data.EReal.Operations

@[expose] public section

noncomputable section

namespace Cert.Softmax

open Idealize.ShloMosaic

variable {ι κ κ' : Type} [Fintype ι] [Fintype κ] [Fintype κ']

/-- The softmax of a row: the exponentials of its elements less their maximum, divided by their sum. -/
def soft (x : κ → EReal) (k : κ) : EReal :=
  Ideal.div (Ideal.exp (x k - Finset.univ.sup x)) (∑ l, Ideal.exp (x l - Finset.univ.sup x))

/-- A piece's maximum; -/
def top (x : ι → κ → EReal) (i : ι) : EReal := Finset.univ.sup (x i)

/-- the sum of its exponentials under that maximum. -/
def mass (x : ι → κ → EReal) (i : ι) : EReal := ∑ l, Ideal.exp (x i l - top x i)

/-- The softmax of a row in pieces, from every piece's maximum and sum. -/
def joint (x : ι → κ → EReal) (i : ι) (k : κ) : EReal :=
  Ideal.exp (x i k - top x i) *
    Ideal.div (Ideal.exp (top x i - Finset.univ.sup (top x))) (∑ d, mass x d * Ideal.exp (top x d - Finset.univ.sup (top x)))

/-! ## Numbering a row's elements another way -/

theorem sup_comp_equiv (e : κ' ≃ κ) (x : κ → EReal) : Finset.univ.sup (fun k => x (e k)) = Finset.univ.sup x := by
  apply le_antisymm
  · exact Finset.sup_le fun k _ => Finset.le_sup (f := x) (Finset.mem_univ (e k))
  · refine Finset.sup_le fun k _ => ?_
    have h := Finset.le_sup (f := fun k => x (e k)) (Finset.mem_univ (e.symm k))
    rwa [e.apply_symm_apply] at h

theorem soft_comp_equiv (e : κ' ≃ κ) (x : κ → EReal) (k : κ') : soft (fun k => x (e k)) k = soft x (e k) := by
  unfold soft
  rw [sup_comp_equiv e x, Equiv.sum_comp e fun l => Ideal.exp (x l - Finset.univ.sup x)]

/-- The maximum of the pieces' maxima is the row's. -/
theorem sup_top (x : ι → κ → EReal) : Finset.univ.sup (top x) = Finset.univ.sup (fun p : ι × κ => x p.1 p.2) := by
  rw [← Finset.univ_product_univ, Finset.sup_product_left]
  rfl

/-! ## Rows of real numbers -/

/-- The maximum of real numbers is one of them. -/
theorem sup_coe [Nonempty κ] (y : κ → ℝ) : ∃ r : ℝ, Finset.univ.sup (fun k => (y k : EReal)) = r := by
  obtain ⟨k, -, h⟩ := Finset.exists_mem_eq_sup Finset.univ Finset.univ_nonempty fun k => (y k : EReal)
  exact ⟨y k, h⟩

theorem exp_coe_sub (a b : ℝ) : Ideal.exp ((a : EReal) - b) = ((Real.exp (a - b) : ℝ) : EReal) := by
  rw [← EReal.coe_sub]
  rfl

theorem div_coe (a : ℝ) {b : ℝ} (hb : b ≠ 0) : Ideal.div (a : EReal) b = ((a / b : ℝ) : EReal) := by
  have h : (b : EReal) ≠ 0 := by simpa using hb
  unfold Ideal.div
  rw [if_neg h, ← EReal.coe_inv, ← EReal.coe_mul, div_eq_mul_inv]

theorem coe_sum (f : κ → ℝ) : ((∑ k, f k : ℝ) : EReal) = ∑ k, (f k : EReal) := by
  classical
  refine Finset.induction_on Finset.univ (by simp) fun a s ha h => ?_
  rw [Finset.sum_insert ha, Finset.sum_insert ha, EReal.coe_add, h]

/-- A row of real numbers has one softmax, in one go or in pieces. -/
theorem joint_eq_soft [Nonempty κ] (x : ι → κ → EReal) (hx : ∀ i k, x i k ≠ ⊤ ∧ x i k ≠ ⊥) (i : ι) (k : κ) :
    joint x i k = soft (fun p : ι × κ => x p.1 p.2) (i, k) := by
  haveI : Nonempty ι := ⟨i⟩
  obtain ⟨y, rfl⟩ : ∃ y : ι → κ → ℝ, x = fun i k => (y i k : EReal) :=
    ⟨fun i k => (x i k).toReal, funext fun i => funext fun k => (EReal.coe_toReal (hx i k).1 (hx i k).2).symm⟩
  clear hx
  choose t ht using fun d => sup_coe (y d)
  obtain ⟨g, hg⟩ := sup_coe fun p : ι × κ => y p.1 p.2
  have htop : top (fun i k => (y i k : EReal)) = fun d => (t d : EReal) := funext ht
  have hsup : Finset.univ.sup (fun d => (t d : EReal)) = g := by rw [← htop, sup_top]; exact hg
  have hpos : (∑ p : ι × κ, Real.exp (y p.1 p.2 - g)) ≠ 0 :=
    (Finset.sum_pos (fun p _ => Real.exp_pos _) ⟨(i, k), Finset.mem_univ _⟩).ne'
  have hsum : (∑ d, (∑ l, Real.exp (y d l - t d)) * Real.exp (t d - g)) = ∑ p : ι × κ, Real.exp (y p.1 p.2 - g) := by
    rw [Fintype.sum_prod_type]
    refine Finset.sum_congr rfl fun d _ => ?_
    rw [Finset.sum_mul]
    refine Finset.sum_congr rfl fun l _ => ?_
    rw [← Real.exp_add, sub_add_sub_cancel]
  unfold joint soft mass
  simp only [htop, hsup, hg, exp_coe_sub, ← coe_sum, ← EReal.coe_mul]
  rw [hsum, div_coe _ hpos, div_coe _ hpos, ← EReal.coe_mul, ← mul_div_assoc, ← Real.exp_add, sub_add_sub_cancel]

end Cert.Softmax

end
-- ==== Proof.KernelValue.lean ====
/-
What the kernel computes over the extended reals: device `c`'s element (r, j) of the result is its element of the softmax of row `r` in four
pieces, piece `d` being row `r` of device `d`'s block.

First the parts of the kernel's body, element by element; then the contents that the exchange leaves, read at an index.
-/
module

public import proofs.«01_k».proof.Proof.Frames
public import proofs.«01_k».proof.Proof.Math
public import Idealize.ShloMosaic.Lib.Pointwise

@[expose] public section

noncomputable section

namespace Cert.Softmax

open Cert.KernelIdeal Cert.KernelIdeal.Gen
open Idealize.ShloMosaic
open Idealize.ShloMosaic.TcCoe
open Idealize.SL Idealize.SL.Sem

/-- The patterns that the maxima start from are -∞. -/
theorem bot_bf16 : Ideal.ofBits .bf16 0xFF80#16 = ⊥ := by simp [Ideal.ofBits, Ideal.ieee]
theorem bot_f32 : Ideal.ofBits .f32 0xFF800000#32 = ⊥ := by simp [Ideal.ofBits, Ideal.ieee]

/-- A maximum that starts from -∞ is the supremum. -/
theorem fold_bot {κ : Type} [Fintype κ] (f : κ → EReal) : Finset.fold max ⊥ f Finset.univ = Finset.univ.sup f := rfl

/-! ## The parts of the body -/

/-- The rows of a chunk. -/
abbrev rows (x : FVec Ideal S512x2048 .bf16) (r : Fin 512) : Fin 2048 → EReal := fun j => x (ix2 r j)

/-- A row's maximum; -/
theorem rowMax_at (x : FVec Ideal S512x2048 .bf16) (r : Fin 512) : k0_pay18 (F := Ideal) x (ix1 r) = Finset.univ.sup (rows x r) := by
  pointwise [k0_pay18, k0_pay17]
  rw [bot_bf16, fold_bot]

/-- the exponential of an element less its row's maximum; -/
theorem rowExp_at (x : FVec Ideal S512x2048 .bf16) (r : Fin 512) (j : Fin 2048) :
    k0_pay19 (F := Ideal) x (ix2 r j) = Ideal.exp (x (ix2 r j) - Finset.univ.sup (rows x r)) := by
  pointwise [k0_pay19, k0_pay18, k0_pay17]
  rw [bot_bf16, fold_bot]

/-- the statistics that the devices exchange: first the row's maximum, -/
theorem statMax_at (x : FVec Ideal S512x2048 .bf16) (r : Fin 512) :
    k0_pay1 (F := Ideal) (k0_pay20 (F := Ideal) x) (ix4 0 0 0 r) = Finset.univ.sup (rows x r) := by
  pointwise [k0_pay1, k0_pay20, k0_pay19, k0_pay18, k0_pay17]
  rw [bot_bf16, fold_bot]

/-- then the sum of the row's exponentials. -/
theorem statSum_at (x : FVec Ideal S512x2048 .bf16) (r : Fin 512) :
    k0_pay1 (F := Ideal) (k0_pay20 (F := Ideal) x) (ix4 0 0 1 r)
      = ∑ j, Ideal.exp (x (ix2 r j) - Finset.univ.sup (rows x r)) := by
  pointwise [k0_pay1, k0_pay20, k0_pay19, k0_pay18, k0_pay17]
  rw [bot_bf16, fold_bot]

/-- A chunk's result, from its own maxima and exponentials and everybody's statistics. -/
theorem result_at (u : FVec Ideal S512 .bf16) (e : FVec Ideal S512x2048 .bf16) (am al : Vec Ideal S1x4x1x512 .f32) (r : Fin 512) (j : Fin 2048) :
    k0_pay35 (F := Ideal) u e am al (ix2 r j)
      = e (ix2 r j) * Ideal.div (Ideal.exp (u (ix1 r) - Finset.univ.sup fun d : Fin 4 => am (ix4 0 d 0 r)))
          (∑ d : Fin 4, al (ix4 0 d 0 r) * Ideal.exp (am (ix4 0 d 0 r) - Finset.univ.sup fun d : Fin 4 => am (ix4 0 d 0 r))) := by
  pointwise [k0_pay35]
  rw [bot_f32, fold_bot]

/-! ## The contents, at an index -/

variable (m : (ℓ : Loc nD τ sig) → Buf (Elt Ideal) ℓ)

/-- Row `r` of the whole array, in its four pieces. -/
def pieces (r : Fin 2048) (d : Fin 4) (j : Fin 2048) : EReal :=
  (m (((d : Dev nD) : Thread nD τ).loc main_arg0) : S2048x2048.Idx → EReal) (ix2 r j)

/-- Row `r` of chunk `ch`, as a row of the block. -/
def rowOf (ch : Fin 4) (r : Fin 512) : Fin 2048 := ⟨512 * ch.val + r.val, by omega⟩

theorem xch_at (c : Dev nD) (ch : Fin 4) (r : Fin 512) (j : Fin 2048) :
    xch (F := Ideal) m c ch (ix2 r j) = pieces m (rowOf ch r) c j := by
  have e : (chunkR ch).toLoadRect.idx (ix2 r j) = ix2 (rowOf ch r) j :=
    funext fun a => Fin.ext (by
      fin_cases a
      · show 512 * ch.val + 1 * r.val = 512 * ch.val + r.val; omega
      · show 0 + 1 * j.val = j.val; omega)
  show xstg m c ((chunkR ch).toLoadRect.idx (ix2 r j)) = _
  rw [e]
  unfold xstg pieces
  rw [read_arg]

theorem rows_xch (c : Dev nD) (ch : Fin 4) (r : Fin 512) : rows (xch (F := Ideal) m c ch) r = pieces m (rowOf ch r) c :=
  funext (xch_at m c ch r)

theorem stats_at (ch : Fin 4) (k : Fin 2) (d : Fin 4) (r : Fin 512) :
    stats (F := Ideal) m ch k (ix4 0 d 0 r) = k0_pay1 (F := Ideal) (k0_pay20 (F := Ideal) (xch m (d : Dev nD) ch)) (ix4 0 0 k r) := by
  have e : (allR ch k).toLoadRect.idx (ix4 0 d 0 r) = ix4 ch d k r :=
    funext fun a => Fin.ext (by
      fin_cases a
      · show ch.val + 1 * 0 = ch.val; omega
      · show 0 + 1 * d.val = d.val; omega
      · show k.val + 1 * 0 = k.val; omega
      · show 0 + 1 * r.val = r.val; omega)
  have e' : inSlot (ix4 ch d k r) = ix4 0 0 k r :=
    funext fun a => Fin.ext (by
      fin_cases a
      · exact Nat.mod_one _
      · exact Nat.mod_one _
      · exact Nat.mod_eq_of_lt k.isLt
      · exact Nat.mod_eq_of_lt r.isLt)
  show shared m ((allR ch k).toLoadRect.idx (ix4 0 d 0 r)) = _
  rw [e]
  show stored m (d : Dev nD) ch (inSlot (ix4 ch d k r)) = _
  rw [e']
  rfl

theorem statMax (ch d : Fin 4) (r : Fin 512) : stats (F := Ideal) m ch 0 (ix4 0 d 0 r) = top (pieces m (rowOf ch r)) d := by
  rw [stats_at, statMax_at, rows_xch]
  rfl

theorem statSum (ch d : Fin 4) (r : Fin 512) : stats (F := Ideal) m ch 1 (ix4 0 d 0 r) = mass (pieces m (rowOf ch r)) d := by
  rw [stats_at, statSum_at, rows_xch]
  exact Finset.sum_congr rfl fun j _ => by rw [xch_at]; rfl

theorem outch_at (c : Dev nD) (ch : Fin 4) (r : Fin 512) (j : Fin 2048) :
    outch (F := Ideal) m c ch (ix2 r j) = joint (pieces m (rowOf ch r)) c j := by
  unfold outch
  rw [result_at, rowExp_at, rowMax_at, rows_xch, xch_at]
  simp only [statMax, statSum]
  rfl

/-- Device `c`'s result is its part of every row's softmax in pieces. -/
theorem outAt_at (c : Dev nD) (r j : Fin 2048) : outAt (F := Ideal) m c (ix2 r j) = joint (pieces m r) c j := by
  have e : inChunk (ix2 r j) = ix2 (⟨r.val % 512, Nat.mod_lt _ (by decide)⟩ : Fin 512) j :=
    funext fun a => Fin.ext (by
      fin_cases a
      · rfl
      · exact Nat.mod_eq_of_lt j.isLt)
  have e' : rowOf (chunkOf (ix2 r j)) ⟨r.val % 512, Nat.mod_lt _ (by decide)⟩ = r := Fin.ext (Nat.div_add_mod r.val 512)
  show outch m c (chunkOf (ix2 r j)) (inChunk (ix2 r j)) = _
  rw [e, outch_at, e']

end Cert.Softmax

end
-- ==== Proof.RefValue.lean ====
/-
What the reference computes over the extended reals: its element (r, l) is that of the softmax of row `r`, in one go.
-/
module

public import proofs.«01_k».proof.Proof.KernelValue
public import proofs.«01_k».proof.Proof.Gen.ReferenceIdeal.Run

@[expose] public section

noncomputable section

namespace Cert.Softmax

open Cert.ReferenceIdeal Cert.ReferenceIdeal.Gen
open Idealize.ShloMosaic
open Idealize.ShloMosaic.TcCoe

/-- The reference's result, of its argument. -/
def refOut (x : FVec Ideal S2048x8192 .bf16) : FVec Ideal S2048x8192 .bf16 :=
  have e : FVec Ideal S2048x8192 .bf16 := Host.exp (subf x (broadcastInDim S2048x8192 ![0, 1] bcast_S2048x1_S2048x8192_0_1
    (broadcastInDim S2048x1 ![0] bcast_S2048_S2048x1_0
      (Host.reduce FloatOps.maximumf x (constant S_ .bf16 0xFF80#16) reducesTo_S2048x8192_S2048_d1 h_S_))))
  Host.divf e (broadcastInDim S2048x8192 ![0, 1] bcast_S2048x1_S2048x8192_0_1
    (truncf .bf16 (broadcastInDim S2048x1 ![0] bcast_S2048_S2048x1_0
      (Host.reduceAdd (extf .f32 e bitsLt_bf16_f32) (constant S_ .f32 0x00000000#32) reducesTo_S2048x8192_S2048_d1 h_S_)) bitsLt_bf16_f32))

theorem refOut_at (x : FVec Ideal S2048x8192 .bf16) (r : Fin 2048) (l : Fin 8192) :
    refOut x (ix2 r l) = soft (fun l : Fin 8192 => x (ix2 r l)) l := by
  pointwise [refOut]
  rw [bot_bf16, fold_bot]
  rfl

end Cert.Softmax

end
-- ==== Proof.Value.lean ====
/-
The value of the result: every device ends with its block of the reference's softmax, if every element of the argument is a real number.

Device `c`'s block of row `r` is the columns from 2048 · `c` on, so the four blocks are the row's pieces (`column`), and the softmax of a row of
real numbers in pieces is the row's softmax (`joint_eq_soft`).
-/
module

public import proofs.«01_k».proof.Proof.RefValue
public import Idealize.ShloMosaic.Lib.Layout

@[expose] public section

noncomputable section

namespace Cert.Softmax

open Idealize.ShloMosaic
open Idealize.ShloMosaic.TcCoe
open Idealize.SL Idealize.SL.Sem

/-- Column `j` of piece `c`, as a column of the whole row. -/
def column : Fin 4 × Fin 2048 ≃ Fin 8192 := finProdFinEquiv

theorem column_val (c : Fin 4) (j : Fin 2048) : (column (c, j)).val = c.val * 2048 + j.val :=
  (Nat.add_comm _ _).trans (congrArg (· + j.val) (Nat.mul_comm 2048 c.val))

/-- A block of a whole array, at an index. -/
theorem block_at (v : (⟨2, ![2048, 8192]⟩ : Shape).Idx → EReal) (c : Fin 4) (r j : Fin 2048) :
    Layout.block ⟨2, ![2048, 2048]⟩ ⟨2, ![2048, 8192]⟩ 1 4 c v (by decide) (ix2 r j) = v (ix2 r (column (c, j))) :=
  congrArg v (funext fun a => Fin.ext (by
    fin_cases a
    · rfl
    · exact (column_val c j).symm))

/-- An element that the precondition allows is a real number. -/
theorem finite_at [Cert.Pre_finite_KernelIdeal.Facts] (x : FVec Ideal Cert.KernelIdeal.S2048x2048 .bf16)
    (h : Cert.Pre_finite_KernelIdeal.fn (F := Ideal) x = fun _ => 1#1) (r j : Fin 2048) : x (ix2 r j) ≠ ⊤ ∧ x (ix2 r j) ≠ ⊥ := by
  have h1 := congrFun h (ix2 r j)
  pointwise [Cert.Pre_finite_KernelIdeal.fn] at h1
  have top_bf16 : Ideal.ofBits .bf16 0x7F80#16 = ⊤ := by simp [Ideal.ofBits, Ideal.ieee]
  rw [top_bf16] at h1
  have h2 : max (x (ix2 r j)) (-x (ix2 r j)) < ⊤ := by
    by_contra hn
    rw [show decide (FloatOps.absf (x (ix2 r j)) < (⊤ : EReal)) = false from decide_eq_false hn] at h1
    exact absurd h1 (by decide)
  refine ⟨((le_max_left _ _).trans_lt h2).ne, fun hb => ?_⟩
  rw [hb] at h2
  exact absurd h2 (by simp)

/-- The devices' results are the blocks of the reference's. -/
theorem outAt_eq_block [Cert.Pre_finite_KernelIdeal.Facts]
    (m : (ℓ : Loc Cert.KernelIdeal.nD Cert.KernelIdeal.τ Cert.KernelIdeal.sig) → Buf (Elt Ideal) ℓ)
    (x : FVec Ideal Cert.ReferenceIdeal.S2048x8192 .bf16) (hpre : Cert.Pre_KernelIdeal_finite_KernelIdeal m)
    (hm : ∀ c : Dev Cert.KernelIdeal.nD, m ((c : Thread Cert.KernelIdeal.nD Cert.KernelIdeal.τ).loc Cert.KernelIdeal.main_arg0)
      = Layout.block ⟨2, ![2048, 2048]⟩ ⟨2, ![2048, 8192]⟩ 1 4 c x) (c : Dev Cert.KernelIdeal.nD) :
    outAt (F := Ideal) m c = Layout.block ⟨2, ![2048, 2048]⟩ ⟨2, ![2048, 8192]⟩ 1 4 c (refOut x) := by
  have key : ∀ r j : Fin 2048, outAt (F := Ideal) m c (ix2 r j)
      = Layout.block ⟨2, ![2048, 2048]⟩ ⟨2, ![2048, 8192]⟩ 1 4 c (refOut x) (by decide) (ix2 r j) := fun r j => by
    have hp : pieces m r = fun d k => x (ix2 r (column (d, k))) := funext fun d => funext fun k =>
      (congrFun (hm d) (ix2 r k)).trans (block_at x d r k)
    have hf : ∀ d k, pieces m r d k ≠ ⊤ ∧ pieces m r d k ≠ ⊥ := fun d k => finite_at _ (hpre d) r k
    calc outAt (F := Ideal) m c (ix2 r j) = joint (pieces m r) c j := outAt_at m c r j
      _ = soft (fun p : Fin 4 × Fin 2048 => pieces m r p.1 p.2) (c, j) := joint_eq_soft _ hf c j
      _ = soft (fun p => x (ix2 r (column p))) (c, j) := by rw [hp]
      _ = soft (fun l : Fin 8192 => x (ix2 r l)) (column (c, j)) := soft_comp_equiv column (fun l => x (ix2 r l)) (c, j)
      _ = refOut x (ix2 r (column (c, j))) := (refOut_at x r _).symm
      _ = _ := (block_at (refOut x) c r j).symm
  funext i
  idx_vars i
  exact key _ _

theorem value [Cert.Pre_finite_KernelIdeal.Facts] : Cert.algebraic_KernelIdeal_ReferenceIdeal_pre_finite_KernelIdeal := by
  intro m ρ m' ρ' hpre hm
  refine ⟨refOut (m' (((0 : Dev Cert.ReferenceIdeal.nD) : Thread Cert.ReferenceIdeal.nD Cert.ReferenceIdeal.τ).loc Cert.ReferenceIdeal.main_arg0)), ?_, ?_⟩
  · exact (θ_run _ _ _).mono (fun _ h c => ⟨(h.1 c).1.trans (outAt_eq_block m _ hpre hm c), (h.1 c).2⟩) (run_kernel (F := Ideal) m ρ)
  · exact (θ_run _ _ _).mono (fun _ h => h 0) (Cert.ReferenceIdeal.Value.run (F := Ideal) m' ρ')

end Cert.Softmax

end
-- ==== Proof.lean ====
/-
The claims, put together.
-/
module

public import proofs.«01_k».proof.Defs
public import proofs.«01_k».proof.Proof.Frames
public import proofs.«01_k».proof.Proof.Value

@[expose] public section

namespace Cert.Proof

/-- What the precondition's own program states about its shapes, on either side. -/
theorem kernel_pre : Cert.Pre_finite_KernelIdeal.Facts := ⟨by decide⟩
theorem reference_pre : Cert.Pre_finite_ReferenceIdeal.Facts := ⟨by decide⟩

theorem claim : Cert.Claim :=
  haveI := kernel_pre
  haveI := reference_pre
  ⟨Cert.Kernel.Gen.facts, Cert.KernelIdeal.Gen.facts, Cert.ReferenceIdeal.Gen.facts, kernel_pre, reference_pre,
    Cert.Softmax.frame_kernel, Cert.Softmax.frame_ideal, Cert.Softmax.frame_ideal_finite, Cert.Softmax.frame_reference,
    Cert.Softmax.frame_reference_finite, trivial, Cert.Softmax.value⟩

end Cert.Proof

end
